-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x192x5760 : Shape := ⟨3, ![3, 192, 5760]⟩
abbrev S3x12x5760 : Shape := ⟨3, ![3, 12, 5760]⟩
abbrev S2880x1152 : Shape := ⟨2, ![2880, 1152]⟩
abbrev S2880x5760 : Shape := ⟨2, ![2880, 5760]⟩
abbrev S3x192x128 : Shape := ⟨3, ![3, 192, 128]⟩
abbrev S3x12x128 : Shape := ⟨3, ![3, 12, 128]⟩
abbrev S2880x256 : Shape := ⟨2, ![2880, 256]⟩
abbrev S1152x256 : Shape := ⟨2, ![1152, 256]⟩
abbrev S2x144x128 : Shape := ⟨3, ![2, 144, 128]⟩
abbrev S2x72x128 : Shape := ⟨3, ![2, 72, 128]⟩
abbrev S1x192x128 : Shape := ⟨3, ![1, 192, 128]⟩
abbrev S192x128 : Shape := ⟨2, ![192, 128]⟩
abbrev S48x128 : Shape := ⟨2, ![48, 128]⟩
abbrev S1x48x128 : Shape := ⟨3, ![1, 48, 128]⟩
abbrev S1x12x128 : Shape := ⟨3, ![1, 12, 128]⟩
abbrev S12x128 : Shape := ⟨2, ![12, 128]⟩
abbrev S1x16x128 : Shape := ⟨3, ![1, 16, 128]⟩
abbrev S16x128 : Shape := ⟨2, ![16, 128]⟩
abbrev S1x1x128 : Shape := ⟨3, ![1, 1, 128]⟩
abbrev S1x128 : Shape := ⟨2, ![1, 128]⟩
abbrev S64x128 : Shape := ⟨2, ![64, 128]⟩
abbrev S16x8x128 : Shape := ⟨3, ![16, 8, 128]⟩
abbrev S16x1x128 : Shape := ⟨3, ![16, 1, 128]⟩
abbrev S128x128 : Shape := ⟨2, ![128, 128]⟩

abbrev nBuf : Space → Nat
  | .hbm => 4
  | .vmem => 15
  | .smem => 0
  | _ => 0

abbrev bufTy : (tb : Table) → Fin (tcTables nBuf tb) → BufTy
  | .hbm, ⟨0, _⟩ => ⟨S3x192x5760, .i8⟩
  | .hbm, ⟨1, _⟩ => ⟨S3x12x5760, .i8⟩
  | .hbm, ⟨2, _⟩ => ⟨S2880x1152, .bf16⟩
  | .hbm, ⟨3, _⟩ => ⟨S2880x5760, .f32⟩
  | .local _ .vmem, ⟨0, _⟩ => ⟨S3x192x128, .i8⟩
  | .local _ .vmem, ⟨1, _⟩ => ⟨S3x192x128, .i8⟩
  | .local _ .vmem, ⟨2, _⟩ => ⟨S3x192x128, .i8⟩
  | .local _ .vmem, ⟨3, _⟩ => ⟨S3x192x128, .i8⟩
  | .local _ .vmem, ⟨4, _⟩ => ⟨S3x12x128, .i8⟩
  | .local _ .vmem, ⟨5, _⟩ => ⟨S3x12x128, .i8⟩
  | .local _ .vmem, ⟨6, _⟩ => ⟨S3x12x128, .i8⟩
  | .local _ .vmem, ⟨7, _⟩ => ⟨S3x12x128, .i8⟩
  | .local _ .vmem, ⟨8, _⟩ => ⟨S2880x1152, .bf16⟩
  | .local _ .vmem, ⟨9, _⟩ => ⟨S2880x256, .f32⟩
  | .local _ .vmem, ⟨10, _⟩ => ⟨S2880x256, .f32⟩
  | .local _ .vmem, ⟨11, _⟩ => ⟨S1152x256, .bf16⟩
  | .local _ .vmem, ⟨12, _⟩ => ⟨S2x144x128, .i32⟩
  | .local _ .vmem, ⟨13, _⟩ => ⟨S2x72x128, .i32⟩
  | .local _ .vmem, ⟨14, _⟩ => ⟨S2x72x128, .i32⟩
  | _, _ => ⟨S3x192x5760, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c44_i32 : BitVec 32 := 44#32
  let v2 : BitVec 32 := Scalar.minsi v1 c44_i32
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c44_i32 : BitVec 32 := 44#32
  let v2 : BitVec 32 := Scalar.minsi v1 c44_i32
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x192x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x192x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x12x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x12x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2880x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2880x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x192x5760 : Shape := ⟨3, ![3, 192, 5760]⟩
abbrev S3x12x5760 : Shape := ⟨3, ![3, 12, 5760]⟩
abbrev S2880x1152 : Shape := ⟨2, ![2880, 1152]⟩
abbrev S_ : Shape := ⟨0, ![]⟩
abbrev S3x192x1x5760 : Shape := ⟨4, ![3, 192, 1, 5760]⟩
abbrev S3x192x2x5760 : Shape := ⟨4, ![3, 192, 2, 5760]⟩
abbrev S3x384x5760 : Shape := ⟨3, ![3, 384, 5760]⟩
abbrev S3x12x32x5760 : Shape := ⟨4, ![3, 12, 32, 5760]⟩
abbrev S3x12x1x5760 : Shape := ⟨4, ![3, 12, 1, 5760]⟩
abbrev S1152x5760 : Shape := ⟨2, ![1152, 5760]⟩
abbrev S2880x5760 : Shape := ⟨2, ![2880, 5760]⟩

abbrev nBuf : Space → Nat
  | .hbm => 76
  | .vmem => 0
  | .smem => 0
  | _ => 0

abbrev bufTy : (tb : Table) → Fin (tcTables nBuf tb) → BufTy
  | .hbm, ⟨0, _⟩ => ⟨S3x192x5760, .i8⟩
  | .hbm, ⟨1, _⟩ => ⟨S3x12x5760, .i8⟩
  | .hbm, ⟨2, _⟩ => ⟨S2880x1152, .bf16⟩
  | .hbm, ⟨3, _⟩ => ⟨S3x192x5760, .i32⟩
  | .hbm, ⟨4, _⟩ => ⟨S_, .i32⟩
  | .hbm, ⟨5, _⟩ => ⟨S3x192x5760, .i32⟩
  | .hbm, ⟨6, _⟩ => ⟨S3x192x5760, .i32⟩
  | .hbm, ⟨7, _⟩ => ⟨S_, .i32⟩
  | .hbm, ⟨8, _⟩ => ⟨S3x192x5760, .i32⟩
  | .hbm, ⟨9, _⟩ => ⟨S3x192x5760, .i32⟩
  | .hbm, ⟨10, _⟩ => ⟨S3x192x1x5760, .i32⟩
  | .hbm, ⟨11, _⟩ => ⟨S3x192x1x5760, .i32⟩
  | .hbm, ⟨12, _⟩ => ⟨S3x192x2x5760, .i32⟩
  | .hbm, ⟨13, _⟩ => ⟨S3x384x5760, .i32⟩
  | .hbm, ⟨14, _⟩ => ⟨S_, .i32⟩
  | .hbm, ⟨15, _⟩ => ⟨S3x384x5760, .i32⟩
  | .hbm, ⟨16, _⟩ => ⟨S3x384x5760, .i32⟩
  | .hbm, ⟨17, _⟩ => ⟨S_, .i32⟩
  | .hbm, ⟨18, _⟩ => ⟨S3x384x5760, .i32⟩
  | .hbm, ⟨19, _⟩ => ⟨S3x384x5760, .i1⟩
  | .hbm, ⟨20, _⟩ => ⟨S_, .i32⟩
  | .hbm, ⟨21, _⟩ => ⟨S3x384x5760, .i32⟩
  | .hbm, ⟨22, _⟩ => ⟨S3x384x5760, .i32⟩
  | .hbm, ⟨23, _⟩ => ⟨S_, .i32⟩
  | .hbm, ⟨24, _⟩ => ⟨S3x384x5760, .i32⟩
  | .hbm, ⟨25, _⟩ => ⟨S3x384x5760, .i1⟩
  | .hbm, ⟨26, _⟩ => ⟨S_, .i32⟩
  | .hbm, ⟨27, _⟩ => ⟨S3x384x5760, .i32⟩
  | .hbm, ⟨28, _⟩ => ⟨S3x384x5760, .i32⟩
  | .hbm, ⟨29, _⟩ => ⟨S_, .i32⟩
  | .hbm, ⟨30, _⟩ => ⟨S3x384x5760, .i32⟩
  | .hbm, ⟨31, _⟩ => ⟨S3x384x5760, .i1⟩
  | .hbm, ⟨32, _⟩ => ⟨S_, .i32⟩
  | .hbm, ⟨33, _⟩ => ⟨S3x384x5760, .i32⟩
  | .hbm, ⟨34, _⟩ => ⟨S3x384x5760, .i32⟩
  | .hbm, ⟨35, _⟩ => ⟨S_, .i32⟩
  | .hbm, ⟨36, _⟩ => ⟨S3x384x5760, .i32⟩
  | .hbm, ⟨37, _⟩ => ⟨S3x384x5760, .i1⟩
  | .hbm, ⟨38, _⟩ => ⟨S_, .f32⟩
  | .hbm, ⟨39, _⟩ => ⟨S_, .f32⟩
  | .hbm, ⟨40, _⟩ => ⟨S3x384x5760, .f32⟩
  | .hbm, ⟨41, _⟩ => ⟨S3x384x5760, .f32⟩
  | .hbm, ⟨42, _⟩ => ⟨S3x384x5760, .f32⟩
  | .hbm, ⟨43, _⟩ => ⟨S_, .f32⟩
  | .hbm, ⟨44, _⟩ => ⟨S_, .f32⟩
  | .hbm, ⟨45, _⟩ => ⟨S3x384x5760, .f32⟩
  | .hbm, ⟨46, _⟩ => ⟨S3x384x5760, .f32⟩
  | .hbm, ⟨47, _⟩ => ⟨S3x384x5760, .f32⟩
  | .hbm, ⟨48, _⟩ => ⟨S3x384x5760, .f32⟩
  | .hbm, ⟨49, _⟩ => ⟨S_, .f32⟩
  | .hbm, ⟨50, _⟩ => ⟨S_, .f32⟩
  | .hbm, ⟨51, _⟩ => ⟨S3x384x5760, .f32⟩
  | .hbm, ⟨52, _⟩ => ⟨S3x384x5760, .f32⟩
  | .hbm, ⟨53, _⟩ => ⟨S3x384x5760, .f32⟩
  | .hbm, ⟨54, _⟩ => ⟨S_, .f32⟩
  | .hbm, ⟨55, _⟩ => ⟨S_, .f32⟩
  | .hbm, ⟨56, _⟩ => ⟨S3x384x5760, .f32⟩
  | .hbm, ⟨57, _⟩ => ⟨S3x384x5760, .f32⟩
  | .hbm, ⟨58, _⟩ => ⟨S3x384x5760, .f32⟩
  | .hbm, ⟨59, _⟩ => ⟨S3x384x5760, .f32⟩
  | .hbm, ⟨60, _⟩ => ⟨S3x384x5760, .f32⟩
  | .hbm, ⟨61, _⟩ => ⟨S3x384x5760, .f32⟩
  | .hbm, ⟨62, _⟩ => ⟨S3x384x5760, .f32⟩
  | .hbm, ⟨63, _⟩ => ⟨S3x384x5760, .bf16⟩
  | .hbm, ⟨64, _⟩ => ⟨S3x12x5760, .i32⟩
  | .hbm, ⟨65, _⟩ => ⟨S_, .i32⟩
  | .hbm, ⟨66, _⟩ => ⟨S3x12x5760, .i32⟩
  | .hbm, ⟨67, _⟩ => ⟨S3x12x5760, .i32⟩
  | .hbm, ⟨68, _⟩ => ⟨S3x12x5760, .f32⟩
  | .hbm, ⟨69, _⟩ => ⟨S3x12x5760, .bf16⟩
  | .hbm, ⟨70, _⟩ => ⟨S3x12x32x5760, .bf16⟩
  | .hbm, ⟨71, _⟩ => ⟨S3x12x1x5760, .bf16⟩
  | .hbm, ⟨72, _⟩ => ⟨S3x12x32x5760, .bf16⟩
  | .hbm, ⟨73, _⟩ => ⟨S3x12x32x5760, .bf16⟩
  | .hbm, ⟨74, _⟩ => ⟨S1152x5760, .bf16⟩
  | .hbm, ⟨75, _⟩ => ⟨S2880x5760, .f32⟩
  | _, _ => ⟨S3x192x5760, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_c_6 : Ref sig .tc := ⟨.hbm, 29, rfl⟩
abbrev main_v19 : Ref sig .tc := ⟨.hbm, 30, rfl⟩
abbrev main_v20 : Ref sig .tc := ⟨.hbm, 31, rfl⟩
abbrev main_c_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_v25 : Ref sig .tc := ⟨.hbm, 42, rfl⟩
abbrev main_cst_10 : Ref sig .tc := ⟨.hbm, 43, rfl⟩
abbrev main_cst_11 : Ref sig .tc := ⟨.hbm, 44, rfl⟩
abbrev main_call1_v0 : Ref sig .tc := ⟨.hbm, 45, rfl⟩
abbrev main_call1_v1 : Ref sig .tc := ⟨.hbm, 46, rfl⟩
abbrev main_v26 : Ref sig .tc := ⟨.hbm, 47, rfl⟩
abbrev main_v27 : Ref sig .tc := ⟨.hbm, 48, rfl⟩
abbrev main_cst_12 : Ref sig .tc := ⟨.hbm, 49, rfl⟩
abbrev main_cst_13 : Ref sig .tc := ⟨.hbm, 50, rfl⟩
abbrev main_call3_v0 : Ref sig .tc := ⟨.hbm, 51, rfl⟩
abbrev main_call3_v1 : Ref sig .tc := ⟨.hbm, 52, rfl⟩
abbrev main_v28 : Ref sig .tc := ⟨.hbm, 53, rfl⟩
abbrev main_cst_14 : Ref sig .tc := ⟨.hbm, 54, rfl⟩
abbrev main_cst_15 : Ref sig .tc := ⟨.hbm, 55, rfl⟩
abbrev main_call4_v0 : Ref sig .tc := ⟨.hbm, 56, rfl⟩
abbrev main_call4_v1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_16 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩

abbrev nD : Nat := 1
abbrev τ : Topo := Topo.v7x

variable {F : FTy → Type} [FloatOps F]
-- ==== Proof.Bits.lean ====
/- The decoding of one four-bit code and of one scale byte, on bits and on extended reals. -/
module

public import proofs.«01_k».proof.Proof.Gen.KernelIdeal.Value
public import Idealize.ShloMosaic.Lib.BitcastFour
public import Idealize.ShloMosaic.Lib.BitcastPair
public import Idealize.ShloMosaic.Lib.MatmulPlain

@[expose] public section

noncomputable section

namespace Cert.Dequant

open Idealize.ShloMosaic Idealize.ShloMosaic.ValueIdx

/-- The value of a four-bit E2M1 code from its four bits, sign first: the two tests of the code's table, in the order
    the programs apply them. -/
def fp4 (b3 b2 b1 b0 : BitVec 1) : EReal :=
  let c (w : BitVec 32) : EReal := FloatOps.ofBits (F := Ideal) .f32 w
  let mag : EReal := Scalar.select b2
    (Scalar.select b1 (Scalar.select b0 (c 0x40C00000#32) (c 0x40800000#32)) (Scalar.select b0 (c 0x40400000#32) (c 0x40000000#32)))
    (Scalar.select b1 (Scalar.select b0 (c 0x3FC00000#32) (c 0x3F800000#32)) (Scalar.select b0 (c 0x3F000000#32) (c 0x00000000#32)))
  Scalar.select b3 (-mag) mag

/-- The value of the low (`o = 0`) or the high (`o = 1`) half of a byte of codes. -/
def code (b : BitVec 8) (o : Nat) : EReal :=
  fp4 (BitVec.ofBool (b.getLsbD (4 * o + 3))) (BitVec.ofBool (b.getLsbD (4 * o + 2)))
    (BitVec.ofBool (b.getLsbD (4 * o + 1))) (BitVec.ofBool (b.getLsbD (4 * o)))

/-- The power of two a scale byte stands for: the byte is the exponent field of a single-precision number. -/
def scale (e : BitVec 8) : EReal := FloatOps.ofBits (F := Ideal) .f32 (e.setWidth 32 <<< 23)

/-- One bit of a word, tested by a mask and a comparison with zero. -/
def bit (v n : BitVec 32) : BitVec 1 := IntOp.cmpi .ne (IntOp.andi v n) 0#32

/-- Masking a word with a power of two and comparing with zero reads one bit of it. -/
theorem bit_eq (v n : BitVec 32) (j : Nat) (hj : j < 32) (hn : n = BitVec.twoPow 32 j) : bit v n = BitVec.ofBool (v.getLsbD j) := by
  subst hn
  unfold bit IntOp.cmpi IntOp.andi
  congr 1
  show (v &&& BitVec.twoPow 32 j != 0#32) = v.getLsbD j
  rw [BitVec.and_twoPow]
  cases h : v.getLsbD j
  · simp
  · simp only [if_true, bne_iff_ne, ne_eq]
    intro e
    have := congrArg (fun x : BitVec 32 => x.getLsbD j) e
    simp [hj] at this

/-- A word whose bits `0` to `3` are four bits of a byte, tested bit by bit, is that half of the byte decoded. -/
theorem fp4_bits (v : BitVec 32) (b : BitVec 8) (o : Nat) (h : ∀ j < 4, v.getLsbD j = b.getLsbD (4 * o + j)) :
    fp4 (bit v 8#32) (bit v 4#32) (bit v 2#32) (bit v 1#32) = code b o := by
  rw [bit_eq v 8#32 3 (by omega) rfl, bit_eq v 4#32 2 (by omega) rfl, bit_eq v 2#32 1 (by omega) rfl, bit_eq v 1#32 0 (by omega) rfl,
    h 3 (by omega), h 2 (by omega), h 1 (by omega), h 0 (by omega)]
  rfl

/-- A word shifted right by four times a place below eight, at one of its low four bits. -/
theorem shr_bit (w : BitVec 32) (k j : Nat) (hk : k < 8) :
    (IntOp.shrui .vector w (IntOp.muli 4#32 (BitVec.ofNat 32 k))).getLsbD j = w.getLsbD (4 * k + j) := by
  have e : (IntOp.muli 4#32 (BitVec.ofNat 32 k)).toNat = 4 * k := by
    unfold IntOp.muli
    rw [BitVec.toNat_mul, BitVec.toNat_ofNat, BitVec.toNat_ofNat]
    omega
  unfold IntOp.shrui
  rw [if_pos (by omega), BitVec.ushiftRight_eq', e, BitVec.getLsbD_ushiftRight]

/-- The scale word of a byte: the byte at the exponent field of the low half, and again at the exponent field of the high half. -/
def scaleWord (e : BitVec 8) : BitVec 32 :=
  IntOp.ori (IntOp.shli .vector (e.setWidth 32) 7#32) (IntOp.shli .vector (IntOp.shli .vector (e.setWidth 32) 7#32) 16#32)

/-- Either half of the scale word, read as a sixteen-bit number, is the power of two the byte stands for. -/
theorem scaleWord_half (e : BitVec 8) (q : Nat) (hq : q < 2) :
    FloatOps.ofBits (F := Ideal) .bf16 ((scaleWord e).extractLsb' (16 * q) 16) = scale e := by
  have hw : (scaleWord e).extractLsb' (16 * q) 16 = e.setWidth 16 <<< 7 := by
    have all : ∀ n : Fin 256, (scaleWord (BitVec.ofFin n)).extractLsb' 0 16 = (BitVec.ofFin n : BitVec 8).setWidth 16 <<< 7
        ∧ (scaleWord (BitVec.ofFin n)).extractLsb' 16 16 = (BitVec.ofFin n : BitVec 8).setWidth 16 <<< 7 := by decide +kernel
    rcases (by omega : q = 0 ∨ q = 1) with rfl | rfl
    · exact (all e.toFin).1
    · exact (all e.toFin).2
  rw [hw]
  unfold scale
  show Ideal.ieee 8 7 (e.setWidth 16 <<< 7) = Ideal.ieee 8 23 (e.setWidth 32 <<< 23)
  have all : ∀ n : Fin 256, ((BitVec.ofFin n : BitVec 8).setWidth 16 <<< 7).extractLsb' 7 8 = BitVec.ofFin n
      ∧ ((BitVec.ofFin n : BitVec 8).setWidth 32 <<< 23).extractLsb' 23 8 = BitVec.ofFin n := by decide +kernel
  have a1 : (e.setWidth 16 <<< 7).extractLsb' 7 8 = e := (all e.toFin).1
  have a2 : (e.setWidth 32 <<< 23).extractLsb' 23 8 = e := (all e.toFin).2
  have b1 : (e.setWidth 16 <<< 7).extractLsb' 0 7 = 0#7 := by
    apply BitVec.eq_of_getLsbD_eq; intro i hi; simp [hi]
  have b2 : (e.setWidth 32 <<< 23).extractLsb' 0 23 = 0#23 := by
    apply BitVec.eq_of_getLsbD_eq; intro i hi; simp [hi]
  have c1 : (e.setWidth 16 <<< 7).extractLsb' (8 + 7) 1 = 0#1 := by
    apply BitVec.eq_of_getLsbD_eq; intro i hi
    have : i = 0 := by omega
    subst this; simp
  have c2 : (e.setWidth 32 <<< 23).extractLsb' (8 + 23) 1 = 0#1 := by
    apply BitVec.eq_of_getLsbD_eq; intro i hi
    have : i = 0 := by omega
    subst this; simp
  unfold Ideal.ieee
  simp only [a1, a2, b1, b2, c1, c2]
  by_cases h1 : e.toNat = 2 ^ 8 - 1
  · rw [if_pos h1, if_pos h1]; rfl
  · rw [if_neg h1, if_neg h1]
    by_cases h0 : e.toNat = 0
    · rw [if_pos h0, if_pos h0]; simp
    · rw [if_neg h0, if_neg h0]
      congr 1
      have hz : (2 : ℝ) ≠ 0 := two_ne_zero
      simp only [BitVec.toNat_ofNat, Nat.zero_mod, Nat.add_zero]
      have e1 : ((e.toNat : Int) - (2 ^ (8 - 1) - 1) - (7 : Nat)) = ((e.toNat : Int) - (2 ^ (8 - 1) - 1) - (23 : Nat)) + 16 := by
        push_cast; ring
      rw [e1, zpow_add₀ hz]
      push_cast
      norm_num
      ring

end Cert.Dequant

end
-- ==== Proof.Tile.lean ====
/- One dequantised tile of 128 rows and 128 lanes, read at an index. -/
module

public import proofs.«01_k».proof.Proof.Bits

@[expose] public section

set_option maxRecDepth 16384

noncomputable section

namespace Cert.Dequant

open Cert.KernelIdeal Cert.KernelIdeal.Gen Idealize.ShloMosaic Idealize.ShloMosaic.ValueIdx

/-- The tile the kernel computes from sixteen rows of code words and four rows of scale words. -/
def tile (s : Fin 4 → Vec Ideal S1x1x128 .i32) (w : Vec Ideal S1x16x128 .i32) : FVec Ideal S128x128 .bf16 :=
  k0_pay20 (F := Ideal) (k0_pay14 (F := Ideal) (s 0) (s 1) (s 2) (s 3)) (k0_pay15 (F := Ideal) w) (k0_pay16 (F := Ideal) w)
    (k0_pay17 (F := Ideal) w) (k0_pay18 (F := Ideal) w) k0_pay19

/-- Positions in row-major order of the small shapes, as arithmetic. -/
theorem rm16 (i : S16x128.Idx) : (S16x128.rowMajor i).val = (i 0).val * 128 + (i 1).val := Shape.rowMajor_val_two i
theorem rm1 (i : S1x128.Idx) : (S1x128.rowMajor i).val = (i 0).val * 128 + (i 1).val := Shape.rowMajor_val_two i
theorem rm11 (i : S1x1x128.Idx) : (S1x1x128.rowMajor i).val = ((i 0).val * 1 + (i 1).val) * 128 + (i 2).val := Shape.rowMajor_val_three i
theorem rm161 (i : S16x1x128.Idx) : (S16x1x128.rowMajor i).val = ((i 0).val * 1 + (i 1).val) * 128 + (i 2).val := Shape.rowMajor_val_three i
theorem rm116 (i : S1x16x128.Idx) : (S1x16x128.rowMajor i).val = ((i 0).val * 16 + (i 1).val) * 128 + (i 2).val := Shape.rowMajor_val_three i

/-- The four scale rows, each repeated over sixteen rows and laid one below the other, at an index. -/
theorem scales_apply (s : Fin 4 → Vec Ideal S1x1x128 .i32) (j : S64x128.Idx) (n : Fin 4) (hn : (j 0).val / 16 = n.val)
    (l : Fin 128) (hl : l.val = (j 1).val) :
    k0_pay14 (F := Ideal) (s 0) (s 1) (s 2) (s 3) j = s n (ix3 (0 : Fin 1) (0 : Fin 1) l) := by
  unfold k0_pay14
  have h0 : (j 0).val < 64 := (j 0).isLt
  let P : Fin 4 → (S16x128.Idx → BitVec 32) := fun n =>
    broadcastTo S16x128 (shapeCast S1x128 (shapeCast S1x128 (s n) shapeCasts_S1x1x128_S1x128) shapeCasts_S1x128_S1x128) broadcasts_S1x128_S16x128
  have hc := concatenate_ofFn_apply (t := S64x128) (s₁ := S16x128) 0 (N := 4) P
    concatenates_S16x128_S16x128_S16x128_S16x128_S64x128_d0 rfl 16 rfl j n hn
    (ix2 (⟨(j 0).val % 16, by omega⟩ : Fin 16) l) rfl
    (fun b hb => match b with | ⟨0, _⟩ => absurd rfl hb | ⟨1, _⟩ => hl)
  refine hc.trans ?_
  refine (broadcastTo_apply _ _ _ (ix2 (0 : Fin 1) l) (fun a => match a with | ⟨0, _⟩ => rfl | ⟨1, _⟩ => rfl)).trans ?_
  refine (shapeCast_apply _ _ _ (ix2 (0 : Fin 1) l) rfl).trans ?_
  exact shapeCast_apply _ _ _ (ix3 (0 : Fin 1) (0 : Fin 1) l) (by
    refine (rm11 _).trans (Eq.trans ?_ (rm1 _).symm)
    show (0 * 1 + 0) * 128 + l.val = 0 * 128 + l.val
    omega)

/-- The shifted code words at an index: the word of the row, shifted right by four times the place. -/
theorem nibbles_apply (w : Vec Ideal S1x16x128 .i32) (r : Fin 16) (k : Fin 8) (l : Fin 128) :
    k0_pay15 (F := Ideal) w (ix3 r k l)
      = IntOp.shrui .vector (w (ix3 (0 : Fin 1) r l)) (IntOp.muli 4#32 (BitVec.ofNat 32 k.val)) := by
  unfold k0_pay15
  dsimp only
  refine congrArg₂ (IntOp.shrui .vector) ?_ (congrArg (IntOp.muli 4#32) (iota_single_apply _ _ _ _ _ (ix3 r k l)))
  refine (broadcastTo_apply _ _ _ (ix3 r (0 : Fin 1) l) (fun a => match a with | ⟨0, _⟩ => rfl | ⟨1, _⟩ => rfl | ⟨2, _⟩ => rfl)).trans ?_
  refine (shapeCast_apply _ _ _ (ix3 r (0 : Fin 1) l) rfl).trans ?_
  refine (shapeCast_apply _ _ _ (ix2 r l) (by
    refine (rm16 _).trans (Eq.trans ?_ (rm161 _).symm)
    show r.val * 128 + l.val = (r.val * 1 + 0) * 128 + l.val
    omega)).trans ?_
  exact shapeCast_apply _ _ _ (ix3 (0 : Fin 1) r l) (by
    refine (rm116 _).trans (Eq.trans ?_ (rm16 _).symm)
    show (0 * 16 + r.val) * 128 + l.val = r.val * 128 + l.val
    omega)

/-- The zero pattern is the number zero. -/
theorem zero_bits : (FloatOps.ofBits (F := Ideal) .f32 0#32 : EReal) = 0 := by
  show Ideal.ieee 8 23 0#32 = 0
  unfold Ideal.ieee
  simp

/-- A tile at an index: its four-bit code decoded, times the half of its scale word. -/
theorem tile_apply (s : Fin 4 → Vec Ideal S1x1x128 .i32) (w : Vec Ideal S1x16x128 .i32) (x : S128x128.Idx) (n : Fin 4)
    (hn : (x 0).val / 32 = n.val) (r : Fin 16) (hr : (x 0).val / 8 = r.val)
    (v : BitVec 32) (hv : v = IntOp.shrui .vector (w (ix3 (0 : Fin 1) r (x 1))) (IntOp.muli 4#32 (BitVec.ofNat 32 ((x 0).val % 8)))) :
    (tile s w x : EReal) = fp4 (bit v 8#32) (bit v 4#32) (bit v 2#32) (bit v 1#32)
      * (FloatOps.ofBits (F := Ideal) .bf16 ((s n (ix3 (0 : Fin 1) (0 : Fin 1) (x 1))).extractLsb' (16 * ((x 0).val % 2)) 16) : EReal) := by
  have h0 : (x 0).val < 128 := (x 0).isLt
  unfold tile k0_pay20
  dsimp only
  rw [shapeCast_apply _ _ _ x rfl]
  let k : S16x8x128.Idx := ix3 r (⟨(x 0).val % 8, by omega⟩ : Fin 8) (x 1)
  have hk : (S16x8x128.rowMajor k).val = (S128x128.rowMajor x).val := by
    rw [Shape.rowMajor_val_three, Shape.rowMajor_val_two]
    show ((r.val * 8 + (x 0).val % 8) * 128 + (x 1).val) = (x 0).val * 128 + (x 1).val
    omega
  have hb : bitcast S128x128 16 (k0_pay14 (F := Ideal) (s 0) (s 1) (s 2) (s 3)) bitcasts_S64x128_w32_S128x128_w16 x
      = (s n (ix3 (0 : Fin 1) (0 : Fin 1) (x 1))).extractLsb' (16 * ((x 0).val % 2)) 16 := by
    rw [bitcast_32_16]
    have hrow : S128x128.row x = (x 0).val := rfl
    have hp : ∀ a : Fin S64x128.rank, a.val + 2 = S64x128.rank → S128x128.row x / 2 < S64x128.size a := fun a ha =>
      match a with | ⟨0, _⟩ => (by show (x 0).val / 2 < 64; omega) | ⟨1, _⟩ => absurd ha (by show ¬ 1 + 2 = 2; omega)
    have e0 : (bitcasts_S64x128_w32_S128x128_w16.srcIdx x (S128x128.row x / 2) hp 0).val = (x 0).val / 2 :=
      Shape.Bitcasts.srcIdx_row bitcasts_S64x128_w32_S128x128_w16 x _ hp 0 rfl
    have e1 : (bitcasts_S64x128_w32_S128x128_w16.srcIdx x (S128x128.row x / 2) hp 1).val = (x 1).val :=
      Shape.Bitcasts.srcIdx_other bitcasts_S64x128_w32_S128x128_w16 x _ hp 1 (by show ¬ 1 + 2 = 2; omega)
    exact congrArg (fun z : BitVec 32 => z.extractLsb' (16 * (S128x128.row x % 2)) 16)
      (scales_apply s _ n (by rw [e0]; omega) (x 1) e1.symm)
  have hd : k0_pay15 (F := Ideal) w k = v := (nibbles_apply w r ⟨(x 0).val % 8, by omega⟩ (x 1)).trans hv.symm
  show FloatOps.mulf (F := Ideal) (φ := .bf16) (FloatOps.truncf (F := Ideal) .bf16 bitsLt_bf16_f32 (shapeCast S128x128 _ _ x))
    (FloatOps.ofBits (F := Ideal) .bf16 (bitcast S128x128 16 (k0_pay14 (F := Ideal) (s 0) (s 1) (s 2) (s 3)) bitcasts_S64x128_w32_S128x128_w16 x)) = _
  rw [hb, shapeCast_apply _ _ x k hk, Ideal.mulf_def, Ideal.truncf_def]
  congr 1
  have neg (y : EReal) : -y = (FloatOps.ofBits (F := Ideal) .f32 0#32 : EReal) - y := by rw [zero_bits, zero_sub]
  rw [← hd]
  unfold fp4 bit
  dsimp only
  rw [neg]
  rfl

end Cert.Dequant

end
-- ==== Proof.Slab.lean ====
/- The scratch words of one slab of columns and the dequantised tiles read from them. -/
module

public import proofs.«01_k».proof.Proof.Tile

@[expose] public section

set_option maxRecDepth 16384

noncomputable section

namespace Cert.Dequant

open Cert.KernelIdeal Cert.KernelIdeal.Gen Idealize.ShloMosaic Idealize.ShloMosaic.ValueIdx Idealize.ShloMosaic.TcCoe

/-- A slab of code bytes. -/
abbrev Codes := S3x192x128.Idx → BitVec 8
/-- A slab of scale bytes. -/
abbrev Exps := S3x12x128.Idx → BitVec 8

/-- Row `r` of batch `b` of the slab read as 32-bit words: four rows of code bytes, the first in the low byte. -/
def wordOf (X : Codes) (b : Fin 3) (r : Fin 48) (l : Fin 128) : BitVec 32 :=
  bitcast S48x128 32 (fun j : S192x128.Idx => X (ix3 b (j 0) (j 1))) bitcasts_S192x128_w8_S48x128_w32 (ix2 r l)

/-- Bit `q` of a word of the slab is bit `q % 8` of byte `q / 8` of the word. -/
theorem wordOf_bit (X : Codes) (b : Fin 3) (r : Fin 48) (l : Fin 128) (q : Nat) (hq : q < 32) (p : Fin 192) (hp : p.val = 4 * r.val + q / 8) :
    (wordOf X b r l).getLsbD q = (X (ix3 b p l)).getLsbD (q % 8) :=
  bitcast_8_32_getLsbD_ix2 _ _ r l q hq p hp

/-- The dequantised number at token `t` and lane `l` of a slab: its code decoded times its scale. -/
def deq (X : Codes) (E : Exps) (t : Nat) (ht : t < 1152) (l : Fin 128) : EReal :=
  code (X (ix3 (⟨t / 384, by omega⟩ : Fin 3) (⟨t % 384 / 2, by omega⟩ : Fin 192) l)) (t % 2)
    * scale (E (ix3 (⟨t / 384, by omega⟩ : Fin 3) (⟨t % 384 / 32, by omega⟩ : Fin 12) l))

/-- Unit `u` of a slab: the tile computed from the unit's sixteen word rows and four scale rows holds the dequantised
    numbers of tokens `128 u` to `128 u + 127`. -/
theorem unit_apply (X : Codes) (E : Exps) (u : Nat) (hu : u < 9) (s : Fin 4 → Vec Ideal S1x1x128 .i32) (w : Vec Ideal S1x16x128 .i32)
    (hw : ∀ (r : Fin 16) (l : Fin 128), w (ix3 (0 : Fin 1) r l)
      = wordOf X (⟨(16 * u + r.val) / 48, by omega⟩ : Fin 3) (⟨(16 * u + r.val) % 48, by omega⟩ : Fin 48) l)
    (hs : ∀ (n : Fin 4) (l : Fin 128), s n (ix3 (0 : Fin 1) (0 : Fin 1) l)
      = scaleWord (E (ix3 (⟨(8 * u + 2 * n.val) / 24, by omega⟩ : Fin 3) (⟨(8 * u + 2 * n.val) % 24 / 2, by omega⟩ : Fin 12) l)))
    (x : S128x128.Idx) (t : Nat) (ht : t < 1152) (hx : t = 128 * u + (x 0).val) :
    (tile s w x : EReal) = deq X E t ht (x 1) := by
  have h0 : (x 0).val < 128 := (x 0).isLt
  let n : Fin 4 := ⟨(x 0).val / 32, by omega⟩
  let r : Fin 16 := ⟨(x 0).val / 8, by omega⟩
  rw [tile_apply s w x n rfl r rfl _ rfl]
  unfold deq
  refine congrArg₂ (HMul.hMul (α := EReal) (β := EReal)) ?_ ?_
  · refine fp4_bits _ _ _ fun j hj => ?_
    rw [shr_bit _ _ _ (by omega), hw r (x 1)]
    refine (wordOf_bit X _ _ _ (4 * ((x 0).val % 8) + j) (by omega) ⟨t % 384 / 2, by omega⟩ ?_).trans ?_
    · show t % 384 / 2 = 4 * ((16 * u + (x 0).val / 8) % 48) + (4 * ((x 0).val % 8) + j) / 8
      omega
    · have eb : (⟨(16 * u + r.val) / 48, by omega⟩ : Fin 3) = ⟨t / 384, by omega⟩ :=
        Fin.ext (by show (16 * u + (x 0).val / 8) / 48 = t / 384; omega)
      rw [eb]
      exact congrArg (fun k => (X _).getLsbD k) (by omega)
  · rw [hs n (x 1), scaleWord_half _ _ (by omega)]
    have eb : (⟨(8 * u + 2 * n.val) / 24, by omega⟩ : Fin 3) = ⟨t / 384, by omega⟩ :=
      Fin.ext (by show (8 * u + 2 * ((x 0).val / 32)) / 24 = t / 384; omega)
    have er : (⟨(8 * u + 2 * n.val) % 24 / 2, by omega⟩ : Fin 12) = ⟨t % 384 / 32, by omega⟩ :=
      Fin.ext (by show (8 * u + 2 * ((x 0).val / 32)) % 24 / 2 = t % 384 / 32; omega)
    rw [eb, er]

theorem rm192 (i : S192x128.Idx) : (S192x128.rowMajor i).val = (i 0).val * 128 + (i 1).val := Shape.rowMajor_val_two i
theorem rm1192 (i : S1x192x128.Idx) : (S1x192x128.rowMajor i).val = ((i 0).val * 192 + (i 1).val) * 128 + (i 2).val := Shape.rowMajor_val_three i
theorem rm48 (i : S48x128.Idx) : (S48x128.rowMajor i).val = (i 0).val * 128 + (i 1).val := Shape.rowMajor_val_two i
theorem rm148 (i : S1x48x128.Idx) : (S1x48x128.rowMajor i).val = ((i 0).val * 48 + (i 1).val) * 128 + (i 2).val := Shape.rowMajor_val_three i
theorem rm12 (i : S12x128.Idx) : (S12x128.rowMajor i).val = (i 0).val * 128 + (i 1).val := Shape.rowMajor_val_two i
theorem rm112 (i : S1x12x128.Idx) : (S1x12x128.rowMajor i).val = ((i 0).val * 12 + (i 1).val) * 128 + (i 2).val := Shape.rowMajor_val_three i

/-- What the kernel stores for one batch of codes is that batch's words. -/
theorem words_piece (X : Codes) (b : Fin 3) (v : Vec Ideal S1x192x128 .i8)
    (hv : ∀ (j : Fin 192) (l : Fin 128), v (ix3 (0 : Fin 1) j l) = X (ix3 b j l)) (x : S1x48x128.Idx) :
    k0_pay2 (F := Ideal) v x = wordOf X b (x 1) (x 2) := by
  have h0 : (x 0).val = 0 := by have : (x 0).val < 1 := (x 0).isLt; omega
  unfold k0_pay2 wordOf
  refine (shapeCast_apply _ _ x (ix2 (n0 := 48) (n1 := 128) (x 1) (x 2)) ?_).trans ?_
  · refine (rm48 _).trans (Eq.trans ?_ (rm148 _).symm)
    show (x 1).val * 128 + (x 2).val = ((x 0).val * 48 + (x 1).val) * 128 + (x 2).val
    omega
  · refine congrArg (fun y : S192x128.Idx → BitVec 8 => bitcast S48x128 32 y bitcasts_S192x128_w8_S48x128_w32 (ix2 (n0 := 48) (n1 := 128) (x 1) (x 2))) (funext fun j => ?_)
    refine (shapeCast_apply _ _ j (ix3 (n0 := 1) (n1 := 192) (n2 := 128) 0 (j 0) (j 1)) ?_).trans (hv _ _)
    refine (rm1192 _).trans (Eq.trans ?_ (rm192 _).symm)
    show (0 * 192 + (j 0).val) * 128 + (j 1).val = (j 0).val * 128 + (j 1).val
    omega

/-- What the kernel stores for one batch of scale bytes is that batch's scale words. -/
theorem scales_piece (E : Exps) (b : Fin 3) (v : Vec Ideal S1x12x128 .i8)
    (hv : ∀ (j : Fin 12) (l : Fin 128), v (ix3 (0 : Fin 1) j l) = E (ix3 b j l)) (x : S1x12x128.Idx) :
    k0_pay5 (F := Ideal) v x = scaleWord (E (ix3 (n0 := 3) (n1 := 12) (n2 := 128) b (x 1) (x 2))) := by
  have h0 : (x 0).val = 0 := by have : (x 0).val < 1 := (x 0).isLt; omega
  unfold k0_pay5 k0_pay3
  refine (shapeCast_apply _ _ x (ix2 (n0 := 12) (n1 := 128) (x 1) (x 2)) ?_).trans ?_
  · refine (rm12 _).trans (Eq.trans ?_ (rm112 _).symm)
    show (x 1).val * 128 + (x 2).val = ((x 0).val * 12 + (x 1).val) * 128 + (x 2).val
    omega
  · show scaleWord (shapeCast S12x128 v shapeCasts_S1x12x128_S12x128 (ix2 (n0 := 12) (n1 := 128) (x 1) (x 2))) = _
    refine congrArg scaleWord ((shapeCast_apply _ _ _ (ix3 (n0 := 1) (n1 := 12) (n2 := 128) 0 (x 1) (x 2)) ?_).trans (hv _ _))
    refine (rm112 _).trans (Eq.trans ?_ (rm12 _).symm)
    show (0 * 12 + (x 1).val) * 128 + (x 2).val = (x 1).val * 128 + (x 2).val
    omega

end Cert.Dequant

end
-- ==== Proof.Words.lean ====
/- What the scratch buffers hold when the tiles are computed and when the product reads them. -/
module

public import proofs.«01_k».proof.Proof.Slab

@[expose] public section

set_option maxRecDepth 16384

noncomputable section

namespace Cert.Dequant

open Cert.KernelIdeal Cert.KernelIdeal.Gen Idealize.ShloMosaic Idealize.ShloMosaic.ValueIdx Idealize.ShloMosaic.TcCoe Idealize.SL.Sem

variable (c : Dev nD)
  (arg1 : Memref sig Kind.tc Space.vmem S3x192x128 EltTy.i8) (harg1 : arg1.IsWhole)
  (arg2 : Memref sig Kind.tc Space.vmem S3x192x128 EltTy.i8) (harg2 : arg2.IsWhole)
  (arg3 : Memref sig Kind.tc Space.vmem S3x12x128 EltTy.i8) (harg3 : arg3.IsWhole)
  (arg4 : Memref sig Kind.tc Space.vmem S3x12x128 EltTy.i8) (harg4 : arg4.IsWhole)
  (arg8 : Memref sig Kind.tc Space.vmem S2x144x128 EltTy.i32) (arg10 : Memref sig Kind.tc Space.vmem S2x72x128 EltTy.i32)
  (x0 x1 : Vec Ideal S3x192x128 EltTy.i8) (x2 x3 : Vec Ideal S3x12x128 EltTy.i8)

/-- One batch of a slab of codes, loaded, at an index. -/
theorem load_codes (M : Memref sig Kind.tc Space.vmem S3x192x128 EltTy.i8) (hM : M.IsWhole) (X : Vec Ideal S3x192x128 EltTy.i8)
    (b : Nat) (hb : b < 3) (inb) (j : Fin 192) (l : Fin 128) :
    View.readAt (Elt Ideal) M.view (Rect.unit (s := S3x192x128) ![b, 0, 0] S1x192x128.size inb).toLoadRect (hM.unread X) (ix3 (0 : Fin 1) j l)
      = X (ix3 (⟨b, hb⟩ : Fin 3) j l) := by
  rw [View.readAt_eq_ld, hM.read_unread]
  refine congrArg X (funext fun a => Fin.ext ?_)
  match a with
  | ⟨0, _⟩ => show b + 1 * 0 = b; omega
  | ⟨1, _⟩ => show 0 + 1 * j.val = j.val; omega
  | ⟨2, _⟩ => show 0 + 1 * l.val = l.val; omega

/-- One batch of a slab of scale bytes, loaded, at an index. -/
theorem load_exps (M : Memref sig Kind.tc Space.vmem S3x12x128 EltTy.i8) (hM : M.IsWhole) (E : Vec Ideal S3x12x128 EltTy.i8)
    (b : Nat) (hb : b < 3) (inb) (j : Fin 12) (l : Fin 128) :
    View.readAt (Elt Ideal) M.view (Rect.unit (s := S3x12x128) ![b, 0, 0] S1x12x128.size inb).toLoadRect (hM.unread E) (ix3 (0 : Fin 1) j l)
      = E (ix3 (⟨b, hb⟩ : Fin 3) j l) := by
  rw [View.readAt_eq_ld, hM.read_unread]
  refine congrArg E (funext fun a => Fin.ext ?_)
  match a with
  | ⟨0, _⟩ => show b + 1 * 0 = b; omega
  | ⟨1, _⟩ => show 0 + 1 * j.val = j.val; omega
  | ⟨2, _⟩ => show 0 + 1 * l.val = l.val; omega

/-- The words of both slabs, as one function of the scratch index. -/
def wordsG (X0 X1 : Codes) (y : S2x144x128.Idx) : BitVec 32 :=
  wordOf (if (y 0).val = 0 then X0 else X1) (⟨(y 1).val / 48, by have : (y 1).val < 144 := (y 1).isLt; omega⟩ : Fin 3)
    (⟨(y 1).val % 48, by omega⟩ : Fin 48) (y 2)

/-- The scale words of both slabs, as one function of the scratch index (only even rows are used). -/
def scalesG (E0 E1 : Exps) (y : S2x72x128.Idx) : BitVec 32 :=
  scaleWord ((if (y 0).val = 0 then E0 else E1) (ix3 (n0 := 3) (n1 := 12) (n2 := 128)
    ⟨(y 1).val / 24, by have : (y 1).val < 72 := (y 1).isLt; omega⟩ ⟨(y 1).val % 24 / 2, by omega⟩ (y 2)))

/-- One stored batch of words agrees with `wordsG` on its rectangle. -/
theorem wordsG_piece (X0 X1 M : Codes) (h b : Nat) (hb : b < 3) (hM : M = if h = 0 then X0 else X1) (inb)
    (v : Vec Ideal S1x192x128 .i8) (hv : ∀ (j : Fin 192) (l : Fin 128), v (ix3 (0 : Fin 1) j l) = M (ix3 (⟨b, hb⟩ : Fin 3) j l))
    (x : S1x48x128.Idx) :
    k0_pay2 (F := Ideal) v x = wordsG X0 X1 ((Rect.unit (s := S2x144x128) ![h, 48 * b, 0] S1x48x128.size inb).emb x) := by
  have h0 : (x 0).val = 0 := by have : (x 0).val < 1 := (x 0).isLt; omega
  have h1 : (x 1).val < 48 := (x 1).isLt
  rw [words_piece M ⟨b, hb⟩ v hv x]
  unfold wordsG
  have e0 : ((Rect.unit (s := S2x144x128) ![h, 48 * b, 0] S1x48x128.size inb).emb x 0).val = h := by
    show h + 1 * (x 0).val = h; omega
  have e1 : ((Rect.unit (s := S2x144x128) ![h, 48 * b, 0] S1x48x128.size inb).emb x 1).val = 48 * b + (x 1).val := by
    show 48 * b + 1 * (x 1).val = _; omega
  have e2 : (Rect.unit (s := S2x144x128) ![h, 48 * b, 0] S1x48x128.size inb).emb x 2 = x 2 :=
    Fin.ext (by show 0 + 1 * (x 2).val = _; omega)
  rw [e0, hM]
  have f1 : (⟨b, hb⟩ : Fin 3) = ⟨((Rect.unit (s := S2x144x128) ![h, 48 * b, 0] S1x48x128.size inb).emb x 1).val / 48, by rw [e1]; omega⟩ :=
    Fin.ext (by show b = _ / 48; rw [e1]; omega)
  have f2 : x 1 = (⟨((Rect.unit (s := S2x144x128) ![h, 48 * b, 0] S1x48x128.size inb).emb x 1).val % 48, by omega⟩ : Fin 48) :=
    Fin.ext (by show (x 1).val = _ % 48; rw [e1]; omega)
  rw [← f1, ← f2]
  exact congrArg (wordOf _ _ _) e2.symm

/-- One stored batch of scale words agrees with `scalesG` on its rectangle of every other row. -/
theorem scalesG_piece (E0 E1 M : Exps) (h b : Nat) (hb : b < 3) (hM : M = if h = 0 then E0 else E1) (inb spos)
    (v : Vec Ideal S1x12x128 .i8) (hv : ∀ (j : Fin 12) (l : Fin 128), v (ix3 (0 : Fin 1) j l) = M (ix3 (⟨b, hb⟩ : Fin 3) j l))
    (x : S1x12x128.Idx) :
    k0_pay5 (F := Ideal) v x = scalesG E0 E1 ((⟨⟨![h, 24 * b, 0], S1x12x128.size, ![1, 2, 1], inb⟩, spos⟩ : Rect S2x72x128).emb x) := by
  have h0 : (x 0).val = 0 := by have : (x 0).val < 1 := (x 0).isLt; omega
  have h1 : (x 1).val < 12 := (x 1).isLt
  rw [scales_piece M ⟨b, hb⟩ v hv x]
  let R : Rect S2x72x128 := ⟨⟨![h, 24 * b, 0], S1x12x128.size, ![1, 2, 1], inb⟩, spos⟩
  show _ = scalesG E0 E1 (R.emb x)
  unfold scalesG
  have e0 : (R.emb x 0).val = h := by show h + 1 * (x 0).val = h; omega
  have e1 : (R.emb x 1).val = 24 * b + 2 * (x 1).val := rfl
  have e2 : R.emb x 2 = x 2 := Fin.ext (by show 0 + 1 * (x 2).val = _; omega)
  rw [e0, hM]
  refine congrArg scaleWord (congrArg _ ?_)
  funext a
  match a with
  | ⟨0, _⟩ => exact Fin.ext (by show b = (R.emb x 1).val / 24; rw [e1]; omega)
  | ⟨1, _⟩ => exact Fin.ext (by show (x 1).val = (R.emb x 1).val % 24 / 2; rw [e1]; omega)
  | ⟨2, _⟩ => exact e2.symm

/-- Every row of one slab's words lies in the rectangle of its batch. -/
theorem words_cover (h : Nat) (y : S2x144x128.Idx) (hy : (y 0).val = h) (b : Nat) (hb : (y 1).val / 48 = b) (inb) :
    y ∈ (Rect.unit (s := S2x144x128) ![h, 48 * b, 0] S1x48x128.size inb).set := by
  rw [Rect.mem_set_unit]
  have h2 : (y 2).val < 128 := (y 2).isLt
  intro a
  match a with
  | ⟨0, _⟩ => show h ≤ (y 0).val ∧ (y 0).val < h + 1; omega
  | ⟨1, _⟩ => show 48 * b ≤ (y 1).val ∧ (y 1).val < 48 * b + 48; omega
  | ⟨2, _⟩ => show 0 ≤ (y 2).val ∧ (y 2).val < 0 + 128; omega

/-- Every even row of one slab's scale words lies in the rectangle of its batch. -/
theorem scales_cover (h : Nat) (y : S2x72x128.Idx) (hy : (y 0).val = h) (hev : (y 1).val % 2 = 0) (b : Nat) (hb : (y 1).val / 24 = b) (inb spos) :
    y ∈ (⟨⟨![h, 24 * b, 0], S1x12x128.size, ![1, 2, 1], inb⟩, spos⟩ : Rect S2x72x128).set := by
  rw [LoadRect.mem_set]
  have h2 : (y 2).val < 128 := (y 2).isLt
  intro a
  match a with
  | ⟨0, _⟩ => exact ⟨0, Nat.one_pos, by show (y 0).val = h + 1 * 0; omega⟩
  | ⟨1, _⟩ => exact ⟨(y 1).val % 24 / 2, by show (y 1).val % 24 / 2 < 12; omega, by show (y 1).val = 24 * b + 2 * ((y 1).val % 24 / 2); omega⟩
  | ⟨2, _⟩ => exact ⟨(y 2).val, h2, by show (y 2).val = 0 + 1 * (y 2).val; omega⟩

/-- The three batches of words stored for the first slab are that slab's words. -/
theorem words_lo_pieces (p) (hp : p ∈ kernelRun0_A.sl.HS1_3 (F := Ideal) c arg1 harg1 x0) (x) : p.2 x = wordsG x0 x1 (p.1.emb x) := by
  unfold kernelRun0_A.sl.HS1_3 at hp
  simp only [List.mem_cons, List.not_mem_nil, or_false] at hp
  rcases hp with rfl | rfl | rfl
  · exact wordsG_piece x0 x1 x0 0 2 (by omega) rfl inb_S2x144x128_S1x48x128_0_96_0 _
        (load_codes arg1 harg1 x0 2 (by omega) inb_S3x192x128_S1x192x128_2_0_0) x
  · exact wordsG_piece x0 x1 x0 0 1 (by omega) rfl inb_S2x144x128_S1x48x128_0_48_0 _
        (load_codes arg1 harg1 x0 1 (by omega) inb_S3x192x128_S1x192x128_1_0_0) x
  · exact wordsG_piece x0 x1 x0 0 0 (by omega) rfl inb_S2x144x128_S1x48x128_0_0_0 _
        (load_codes arg1 harg1 x0 0 (by omega) inb_S3x192x128_S1x192x128_0_0_0) x

/-- After the first slab's stores the words scratch holds that slab's words. -/
theorem words_lo (y : S2x144x128.Idx) (hy : (y 0).val = 0) :
    View.canon (kernelRun0_A.sl.HS1_3 (F := Ideal) c arg1 harg1 x0) y = wordsG x0 x1 y := by
  have h1 : (y 1).val < 144 := (y 1).isLt
  refine View.canon_apply_of_pieces (Val := Elt Ideal) (e := .i32) (wordsG x0 x1) _ (words_lo_pieces c arg1 harg1 x0 x1) y ?_
  unfold kernelRun0_A.sl.HS1_3
  simp only [List.mem_cons, List.not_mem_nil, or_false, exists_eq_or_imp, exists_eq_left]
  rcases (by omega : (y 1).val / 48 = 0 ∨ (y 1).val / 48 = 1 ∨ (y 1).val / 48 = 2) with h | h | h
  · exact .inr (.inr (words_cover 0 y hy 0 h _))
  · exact .inr (.inl (words_cover 0 y hy 1 h _))
  · exact .inl (words_cover 0 y hy 2 h _)

/-- After the second slab's stores the words scratch holds that slab's words in its second half. -/
theorem words_hi (y : S2x144x128.Idx) (hy : (y 0).val = 1) :
    View.canon (kernelRun0_A.sl.HS1_6 (F := Ideal) c arg1 harg1 arg2 harg2 x0 x1) y = wordsG x0 x1 y := by
  have h1 : (y 1).val < 144 := (y 1).isLt
  refine View.canon_apply_of_pieces (Val := Elt Ideal) (e := .i32) (wordsG x0 x1) _ ?_ y ?_
  · intro p hp x
    unfold kernelRun0_A.sl.HS1_6 at hp
    simp only [List.mem_cons] at hp
    rcases hp with rfl | rfl | rfl | hp
    · exact wordsG_piece x0 x1 x1 1 2 (by omega) rfl inb_S2x144x128_S1x48x128_1_96_0 _
        (load_codes arg2 harg2 x1 2 (by omega) inb_S3x192x128_S1x192x128_2_0_0) x
    · exact wordsG_piece x0 x1 x1 1 1 (by omega) rfl inb_S2x144x128_S1x48x128_1_48_0 _
        (load_codes arg2 harg2 x1 1 (by omega) inb_S3x192x128_S1x192x128_1_0_0) x
    · exact wordsG_piece x0 x1 x1 1 0 (by omega) rfl inb_S2x144x128_S1x48x128_1_0_0 _
        (load_codes arg2 harg2 x1 0 (by omega) inb_S3x192x128_S1x192x128_0_0_0) x
    · exact words_lo_pieces c arg1 harg1 x0 x1 p hp x
  · unfold kernelRun0_A.sl.HS1_6
    simp only [List.mem_cons, exists_eq_or_imp]
    rcases (by omega : (y 1).val / 48 = 0 ∨ (y 1).val / 48 = 1 ∨ (y 1).val / 48 = 2) with h | h | h
    · exact .inr (.inr (.inl (words_cover 1 y hy 0 h _)))
    · exact .inr (.inl (words_cover 1 y hy 1 h _))
    · exact .inl (words_cover 1 y hy 2 h _)

/-- The three batches of scale words stored for the first slab are that slab's scale words. -/
theorem scales_lo_pieces (p) (hp : p ∈ kernelRun0_A.sl.HS3_3 (F := Ideal) c arg3 harg3 x2) (x) : p.2 x = scalesG x2 x3 (p.1.emb x) := by
  unfold kernelRun0_A.sl.HS3_3 at hp
  simp only [List.mem_cons, List.not_mem_nil, or_false] at hp
  rcases hp with rfl | rfl | rfl
  · exact scalesG_piece x2 x3 x2 0 2 (by omega) rfl inb_S2x72x128_S1x12x128_0_48_0_s_1_2_1 spos_1_2_1 _
        (load_exps arg3 harg3 x2 2 (by omega) inb_S3x12x128_S1x12x128_2_0_0) x
  · exact scalesG_piece x2 x3 x2 0 1 (by omega) rfl inb_S2x72x128_S1x12x128_0_24_0_s_1_2_1 spos_1_2_1 _
        (load_exps arg3 harg3 x2 1 (by omega) inb_S3x12x128_S1x12x128_1_0_0) x
  · exact scalesG_piece x2 x3 x2 0 0 (by omega) rfl inb_S2x72x128_S1x12x128_0_0_0_s_1_2_1 spos_1_2_1 _
        (load_exps arg3 harg3 x2 0 (by omega) inb_S3x12x128_S1x12x128_0_0_0) x

/-- After the first slab's stores the scale scratch holds that slab's scale words at its even rows. -/
theorem scales_lo (y : S2x72x128.Idx) (hy : (y 0).val = 0) (hev : (y 1).val % 2 = 0) :
    View.canon (kernelRun0_A.sl.HS3_3 (F := Ideal) c arg3 harg3 x2) y = scalesG x2 x3 y := by
  have h1 : (y 1).val < 72 := (y 1).isLt
  refine View.canon_apply_of_pieces (Val := Elt Ideal) (e := .i32) (scalesG x2 x3) _ (scales_lo_pieces c arg3 harg3 x2 x3) y ?_
  unfold kernelRun0_A.sl.HS3_3
  simp only [List.mem_cons, List.not_mem_nil, or_false, exists_eq_or_imp, exists_eq_left]
  rcases (by omega : (y 1).val / 24 = 0 ∨ (y 1).val / 24 = 1 ∨ (y 1).val / 24 = 2) with h | h | h
  · exact .inr (.inr (scales_cover 0 y hy hev 0 h _ spos_1_2_1))
  · exact .inr (.inl (scales_cover 0 y hy hev 1 h _ spos_1_2_1))
  · exact .inl (scales_cover 0 y hy hev 2 h _ spos_1_2_1)

/-- After the second slab's stores the scale scratch holds that slab's scale words at the even rows of its second half. -/
theorem scales_hi (y : S2x72x128.Idx) (hy : (y 0).val = 1) (hev : (y 1).val % 2 = 0) :
    View.canon (kernelRun0_A.sl.HS3_6 (F := Ideal) c arg3 harg3 arg4 harg4 x2 x3) y = scalesG x2 x3 y := by
  have h1 : (y 1).val < 72 := (y 1).isLt
  refine View.canon_apply_of_pieces (Val := Elt Ideal) (e := .i32) (scalesG x2 x3) _ ?_ y ?_
  · intro p hp x
    unfold kernelRun0_A.sl.HS3_6 at hp
    simp only [List.mem_cons] at hp
    rcases hp with rfl | rfl | rfl | hp
    · exact scalesG_piece x2 x3 x3 1 2 (by omega) rfl inb_S2x72x128_S1x12x128_1_48_0_s_1_2_1 spos_1_2_1 _
        (load_exps arg4 harg4 x3 2 (by omega) inb_S3x12x128_S1x12x128_2_0_0) x
    · exact scalesG_piece x2 x3 x3 1 1 (by omega) rfl inb_S2x72x128_S1x12x128_1_24_0_s_1_2_1 spos_1_2_1 _
        (load_exps arg4 harg4 x3 1 (by omega) inb_S3x12x128_S1x12x128_1_0_0) x
    · exact scalesG_piece x2 x3 x3 1 0 (by omega) rfl inb_S2x72x128_S1x12x128_1_0_0_s_1_2_1 spos_1_2_1 _
        (load_exps arg4 harg4 x3 0 (by omega) inb_S3x12x128_S1x12x128_0_0_0) x
    · exact scales_lo_pieces c arg3 harg3 x2 x3 p hp x
  · unfold kernelRun0_A.sl.HS3_6
    simp only [List.mem_cons, exists_eq_or_imp]
    rcases (by omega : (y 1).val / 24 = 0 ∨ (y 1).val / 24 = 1 ∨ (y 1).val / 24 = 2) with h | h | h
    · exact .inr (.inr (.inl (scales_cover 1 y hy hev 0 h _ spos_1_2_1)))
    · exact .inr (.inl (scales_cover 1 y hy hev 1 h _ spos_1_2_1))
    · exact .inl (scales_cover 1 y hy hev 2 h _ spos_1_2_1)

end Cert.Dequant

end
-- ==== Proof.Dyq.lean ====
/- The scratch buffer the product reads: the dequantised numbers of both slabs. -/
module

public import proofs.«01_k».proof.Proof.Words

@[expose] public section

set_option maxRecDepth 16384

noncomputable section

namespace Cert.Dequant

open Cert.KernelIdeal Cert.KernelIdeal.Gen Idealize.ShloMosaic Idealize.ShloMosaic.ValueIdx Idealize.ShloMosaic.TcCoe Idealize.SL.Sem

variable (c : Dev nD)
  (arg1 : Memref sig Kind.tc Space.vmem S3x192x128 EltTy.i8) (harg1 : arg1.IsWhole)
  (arg2 : Memref sig Kind.tc Space.vmem S3x192x128 EltTy.i8) (harg2 : arg2.IsWhole)
  (arg3 : Memref sig Kind.tc Space.vmem S3x12x128 EltTy.i8) (harg3 : arg3.IsWhole)
  (arg4 : Memref sig Kind.tc Space.vmem S3x12x128 EltTy.i8) (harg4 : arg4.IsWhole)
  (arg8 : Memref sig Kind.tc Space.vmem S2x144x128 EltTy.i32) (arg10 : Memref sig Kind.tc Space.vmem S2x72x128 EltTy.i32)
  (x0 x1 : Vec Ideal S3x192x128 EltTy.i8) (x2 x3 : Vec Ideal S3x12x128 EltTy.i8)

/-- The dequantised numbers of two slabs side by side. -/
def dyq (X0 X1 : Codes) (E0 E1 : Exps) (y : S1152x256.Idx) : EReal :=
  deq (if (y 1).val < 128 then X0 else X1) (if (y 1).val < 128 then E0 else E1) (y 0).val (y 0).isLt ⟨(y 1).val % 128, by omega⟩

/-- A unit's word rectangle lies in the words scratch. -/
theorem word_rows_inb (h u : Nat) (hh : h < 2) (hu : u < 9) (a : Fin S2x144x128.rank) : (![h, 16 * u, 0] : Fin 3 → Nat) a + S1x16x128.size a ≤ S2x144x128.size a :=
  match a with
  | ⟨0, _⟩ => by show h + 1 ≤ 2; omega
  | ⟨1, _⟩ => by show 16 * u + 16 ≤ 144; omega
  | ⟨2, _⟩ => by show 0 + 128 ≤ 128; omega

/-- A unit's scale row lies in the scale scratch. -/
theorem scale_row_inb (h u : Nat) (hh : h < 2) (hu : u < 9) (n : Fin 4) (a : Fin S2x72x128.rank) :
    (![h, 8 * u + 2 * n.val, 0] : Fin 3 → Nat) a + S1x1x128.size a ≤ S2x72x128.size a :=
  match a with
  | ⟨0, _⟩ => by show h + 1 ≤ 2; omega
  | ⟨1, _⟩ => by show 8 * u + 2 * n.val + 1 ≤ 72; omega
  | ⟨2, _⟩ => by show 0 + 128 ≤ 128; omega

/-- The word rows a unit loads, when the scratch holds the slab's words. -/
theorem word_rows (L : List (View.Piece (Elt Ideal) S2x144x128 EltTy.i32)) (h u : Nat) (hh : h < 2) (hu : u < 9) (X : Codes)
    (hX : X = if h = 0 then x0 else x1) (hL : ∀ y : S2x144x128.Idx, (y 0).val = h → View.canon L y = wordsG x0 x1 y) (r : Fin 16) (l : Fin 128) :
    arg8.view.readCov L (Rect.unit (s := S2x144x128) ![h, 16 * u, 0] S1x16x128.size (word_rows_inb h u hh hu)).toLoadRect (ix3 (0 : Fin 1) r l)
      = wordOf X (⟨(16 * u + r.val) / 48, by omega⟩ : Fin 3) (⟨(16 * u + r.val) % 48, by omega⟩ : Fin 48) l := by
  let R : Rect S2x144x128 := Rect.unit (s := S2x144x128) ![h, 16 * u, 0] S1x16x128.size (word_rows_inb h u hh hu)
  refine (congrFun (View.readCov_eq_canon' arg8.view L R.toLoadRect) (ix3 (0 : Fin 1) r l)).trans ?_
  let y : S2x144x128.Idx := R.toLoadRect.idx (ix3 (0 : Fin 1) r l)
  have e0 : (y 0).val = h := by show h + 1 * 0 = h; omega
  have e1 : (y 1).val = 16 * u + r.val := by show 16 * u + 1 * r.val = _; omega
  have e2 : y 2 = l := Fin.ext (by show 0 + 1 * l.val = l.val; omega)
  refine (hL y e0).trans ?_
  unfold wordsG
  rw [e0, e2, hX]
  congr 1
  · exact Fin.ext (by show (y 1).val / 48 = _; rw [e1])
  · exact Fin.ext (by show (y 1).val % 48 = _; rw [e1])

/-- The scale row a unit loads, when the scratch holds the slab's scale words at its even rows. -/
theorem scale_row (L : List (View.Piece (Elt Ideal) S2x72x128 EltTy.i32)) (h u : Nat) (hh : h < 2) (hu : u < 9) (E : Exps)
    (hE : E = if h = 0 then x2 else x3)
    (hL : ∀ y : S2x72x128.Idx, (y 0).val = h → (y 1).val % 2 = 0 → View.canon L y = scalesG x2 x3 y) (n : Fin 4) (l : Fin 128) :
    arg10.view.readCov L (Rect.unit (s := S2x72x128) ![h, 8 * u + 2 * n.val, 0] S1x1x128.size (scale_row_inb h u hh hu n)).toLoadRect (ix3 (0 : Fin 1) (0 : Fin 1) l)
      = scaleWord (E (ix3 (⟨(8 * u + 2 * n.val) / 24, by omega⟩ : Fin 3) (⟨(8 * u + 2 * n.val) % 24 / 2, by omega⟩ : Fin 12) l)) := by
  let R : Rect S2x72x128 := Rect.unit (s := S2x72x128) ![h, 8 * u + 2 * n.val, 0] S1x1x128.size (scale_row_inb h u hh hu n)
  refine (congrFun (View.readCov_eq_canon' arg10.view L R.toLoadRect) (ix3 (0 : Fin 1) (0 : Fin 1) l)).trans ?_
  let y : S2x72x128.Idx := R.toLoadRect.idx (ix3 (0 : Fin 1) (0 : Fin 1) l)
  have e0 : (y 0).val = h := by show h + 1 * 0 = h; omega
  have e1 : (y 1).val = 8 * u + 2 * n.val := by show 8 * u + 2 * n.val + 1 * 0 = _; omega
  have e2 : y 2 = l := Fin.ext (by show 0 + 1 * l.val = l.val; omega)
  refine (hL y e0 (by omega)).trans ?_
  unfold scalesG
  rw [e0, e2, hE]
  refine congrArg scaleWord (congrArg _ (funext fun a => ?_))
  match a with
  | ⟨0, _⟩ => exact Fin.ext (by show (y 1).val / 24 = _; rw [e1])
  | ⟨1, _⟩ => exact Fin.ext (by show (y 1).val % 24 / 2 = _; rw [e1])
  | ⟨2, _⟩ => rfl

/-- The tile stored for unit `u` of slab `h` holds the dequantised numbers of its rectangle. -/
theorem unit_eq (L : List (View.Piece (Elt Ideal) S2x144x128 EltTy.i32)) (K : List (View.Piece (Elt Ideal) S2x72x128 EltTy.i32))
    (h u : Nat) (hh : h < 2) (hu : u < 9)
    (hL : ∀ y : S2x144x128.Idx, (y 0).val = h → View.canon L y = wordsG x0 x1 y)
    (hK : ∀ y : S2x72x128.Idx, (y 0).val = h → (y 1).val % 2 = 0 → View.canon K y = scalesG x2 x3 y) (inb) (pay : FVec Ideal S128x128 .bf16)
    (hp : pay = tile (fun n => arg10.view.readCov K (Rect.unit (s := S2x72x128) ![h, 8 * u + 2 * n.val, 0] S1x1x128.size (scale_row_inb h u hh hu n)).toLoadRect)
      (arg8.view.readCov L (Rect.unit (s := S2x144x128) ![h, 16 * u, 0] S1x16x128.size (word_rows_inb h u hh hu)).toLoadRect))
    (x : S128x128.Idx) :
    (pay x : EReal) = dyq x0 x1 x2 x3 ((Rect.unit (s := S1152x256) ![128 * u, 128 * h] S128x128.size inb).emb x) := by
  let y : S1152x256.Idx := (Rect.unit (s := S1152x256) ![128 * u, 128 * h] S128x128.size inb).emb x
  have h0 : (x 0).val < 128 := (x 0).isLt
  have h1 : (x 1).val < 128 := (x 1).isLt
  have e0 : (y 0).val = 128 * u + (x 0).val := by show 128 * u + 1 * (x 0).val = _; omega
  have e1 : (y 1).val = 128 * h + (x 1).val := by show 128 * h + 1 * (x 1).val = _; omega
  have el : x 1 = (⟨(y 1).val % 128, by omega⟩ : Fin 128) := Fin.ext (by show (x 1).val = (y 1).val % 128; omega)
  have hc : ((y 1).val < 128) = (h = 0) := by apply propext; omega
  rw [hp]
  refine (unit_apply (if h = 0 then x0 else x1) (if h = 0 then x2 else x3) u hu _ _ (word_rows arg8 x0 x1 L h u hh hu _ rfl hL)
    (scale_row arg10 x2 x3 K h u hh hu _ rfl hK) x (y 0).val (y 0).isLt e0).trans ?_
  show _ = dyq x0 x1 x2 x3 y
  unfold dyq
  simp only [hc, el]

/-- So a piece that is such a tile stored at that rectangle agrees with the dequantised numbers. -/
theorem unit_piece (L : List (View.Piece (Elt Ideal) S2x144x128 EltTy.i32)) (K : List (View.Piece (Elt Ideal) S2x72x128 EltTy.i32))
    (h u : Nat) (hh : h < 2) (hu : u < 9)
    (hL : ∀ y : S2x144x128.Idx, (y 0).val = h → View.canon L y = wordsG x0 x1 y)
    (hK : ∀ y : S2x72x128.Idx, (y 0).val = h → (y 1).val % 2 = 0 → View.canon K y = scalesG x2 x3 y) (inb) (p : View.Piece (Elt Ideal) S1152x256 EltTy.bf16)
    (pay : FVec Ideal S128x128 .bf16) (hq : p = ⟨Rect.unit (s := S1152x256) ![128 * u, 128 * h] S128x128.size inb, pay⟩)
    (hp : pay = tile (fun n => arg10.view.readCov K (Rect.unit (s := S2x72x128) ![h, 8 * u + 2 * n.val, 0] S1x1x128.size (scale_row_inb h u hh hu n)).toLoadRect)
      (arg8.view.readCov L (Rect.unit (s := S2x144x128) ![h, 16 * u, 0] S1x16x128.size (word_rows_inb h u hh hu)).toLoadRect))
    (x : p.1.shape.Idx) : p.2 x = dyq x0 x1 x2 x3 (p.1.emb x) := by
  subst hq
  exact unit_eq arg8 arg10 x0 x1 x2 x3 L K h u hh hu hL hK inb pay hp x

/-- Every store into the scratch is of dequantised numbers. -/
theorem dyq_pieces (p) (hp : p ∈ kernelRun0_A.sl.HS0_18 (F := Ideal) c arg1 harg1 arg2 harg2 arg3 harg3 arg4 harg4 arg8 arg10 x0 x1 x2 x3) (x) :
    p.2 x = dyq x0 x1 x2 x3 (p.1.emb x) := by
  have lo (u : Nat) (hu : u < 9) := unit_piece arg8 arg10 x0 x1 x2 x3 _ _ 0 u (by omega) hu
    (words_lo c arg1 harg1 x0 x1) (scales_lo c arg3 harg3 x2 x3)
  have hi (u : Nat) (hu : u < 9) := unit_piece arg8 arg10 x0 x1 x2 x3 _ _ 1 u (by omega) hu
    (words_hi c arg1 harg1 arg2 harg2 x0 x1) (scales_hi c arg3 harg3 arg4 harg4 x2 x3)
  unfold kernelRun0_A.sl.HS0_18 at hp
  simp only [List.mem_cons, List.not_mem_nil, or_false] at hp
  rcases hp with hp | hp | hp | hp | hp | hp | hp | hp | hp | hp | hp | hp | hp | hp | hp | hp | hp | hp
  · exact hi 8 (by omega) inb_S1152x256_S128x128_1024_128 p _ hp (by rfl) x
  · exact hi 7 (by omega) inb_S1152x256_S128x128_896_128 p _ hp (by rfl) x
  · exact hi 6 (by omega) inb_S1152x256_S128x128_768_128 p _ hp (by rfl) x
  · exact hi 5 (by omega) inb_S1152x256_S128x128_640_128 p _ hp (by rfl) x
  · exact hi 4 (by omega) inb_S1152x256_S128x128_512_128 p _ hp (by rfl) x
  · exact hi 3 (by omega) inb_S1152x256_S128x128_384_128 p _ hp (by rfl) x
  · exact hi 2 (by omega) inb_S1152x256_S128x128_256_128 p _ hp (by rfl) x
  · exact hi 1 (by omega) inb_S1152x256_S128x128_128_128 p _ hp (by rfl) x
  · exact hi 0 (by omega) inb_S1152x256_S128x128_0_128 p _ hp (by rfl) x
  · exact lo 8 (by omega) inb_S1152x256_S128x128_1024_0 p _ hp (by rfl) x
  · exact lo 7 (by omega) inb_S1152x256_S128x128_896_0 p _ hp (by rfl) x
  · exact lo 6 (by omega) inb_S1152x256_S128x128_768_0 p _ hp (by rfl) x
  · exact lo 5 (by omega) inb_S1152x256_S128x128_640_0 p _ hp (by rfl) x
  · exact lo 4 (by omega) inb_S1152x256_S128x128_512_0 p _ hp (by rfl) x
  · exact lo 3 (by omega) inb_S1152x256_S128x128_384_0 p _ hp (by rfl) x
  · exact lo 2 (by omega) inb_S1152x256_S128x128_256_0 p _ hp (by rfl) x
  · exact lo 1 (by omega) inb_S1152x256_S128x128_128_0 p _ hp (by rfl) x
  · exact lo 0 (by omega) inb_S1152x256_S128x128_0_0 p _ hp (by rfl) x

/-- The rectangle of unit `u` of slab `h` holds the indices of its rows and lanes. -/
theorem dyq_mem (y : S1152x256.Idx) (u h : Nat) (hu : (y 0).val / 128 = u) (hh : (y 1).val / 128 = h) (inb) :
    y ∈ (Rect.unit (s := S1152x256) ![128 * u, 128 * h] S128x128.size inb).set := by
  rw [Rect.mem_set_unit]
  intro a
  match a with
  | ⟨0, _⟩ => show 128 * u ≤ (y 0).val ∧ (y 0).val < 128 * u + 128; omega
  | ⟨1, _⟩ => show 128 * h ≤ (y 1).val ∧ (y 1).val < 128 * h + 128; omega

/-- The scratch the product reads holds the dequantised numbers of both slabs, at every index. -/
theorem dyq_eq (y : S1152x256.Idx) :
    View.canon (kernelRun0_A.sl.HS0_18 (F := Ideal) c arg1 harg1 arg2 harg2 arg3 harg3 arg4 harg4 arg8 arg10 x0 x1 x2 x3) y = dyq x0 x1 x2 x3 y := by
  have h0 : (y 0).val < 1152 := (y 0).isLt
  have h1 : (y 1).val < 256 := (y 1).isLt
  refine View.canon_apply_of_pieces (Val := Elt Ideal) (e := .bf16) (dyq x0 x1 x2 x3) _
    (dyq_pieces c arg1 harg1 arg2 harg2 arg3 harg3 arg4 harg4 arg8 arg10 x0 x1 x2 x3) y ?_
  unfold kernelRun0_A.sl.HS0_18
  simp only [List.mem_cons, List.not_mem_nil, or_false, exists_eq_or_imp, exists_eq_left]
  have key (u h : Nat) (hu : (y 0).val / 128 = u) (hh : (y 1).val / 128 = h) := dyq_mem y u h hu hh
  rcases (by omega : (y 1).val / 128 = 1 ∨ (y 1).val / 128 = 0) with hh | hh
  · rcases (by omega : (y 0).val / 128 = 8 ∨ (y 0).val / 128 = 7 ∨ (y 0).val / 128 = 6 ∨ (y 0).val / 128 = 5 ∨ (y 0).val / 128 = 4
      ∨ (y 0).val / 128 = 3 ∨ (y 0).val / 128 = 2 ∨ (y 0).val / 128 = 1 ∨ (y 0).val / 128 = 0) with hu | hu | hu | hu | hu | hu | hu | hu | hu
    · iterate 0 right
      left; exact key 8 1 hu hh _
    · iterate 1 right
      left; exact key 7 1 hu hh _
    · iterate 2 right
      left; exact key 6 1 hu hh _
    · iterate 3 right
      left; exact key 5 1 hu hh _
    · iterate 4 right
      left; exact key 4 1 hu hh _
    · iterate 5 right
      left; exact key 3 1 hu hh _
    · iterate 6 right
      left; exact key 2 1 hu hh _
    · iterate 7 right
      left; exact key 1 1 hu hh _
    · iterate 8 right
      left; exact key 0 1 hu hh _
  · iterate 9 right
    rcases (by omega : (y 0).val / 128 = 8 ∨ (y 0).val / 128 = 7 ∨ (y 0).val / 128 = 6 ∨ (y 0).val / 128 = 5 ∨ (y 0).val / 128 = 4
      ∨ (y 0).val / 128 = 3 ∨ (y 0).val / 128 = 2 ∨ (y 0).val / 128 = 1 ∨ (y 0).val / 128 = 0) with hu | hu | hu | hu | hu | hu | hu | hu | hu
    · left; exact key 8 0 hu hh _
    · iterate 1 right
      left; exact key 7 0 hu hh _
    · iterate 2 right
      left; exact key 6 0 hu hh _
    · iterate 3 right
      left; exact key 5 0 hu hh _
    · iterate 4 right
      left; exact key 4 0 hu hh _
    · iterate 5 right
      left; exact key 3 0 hu hh _
    · iterate 6 right
      left; exact key 2 0 hu hh _
    · iterate 7 right
      left; exact key 1 0 hu hh _
    · iterate 8 right
      exact key 0 0 hu hh _

end Cert.Dequant

end
-- ==== Proof.Block.lean ====
/- What one grid point leaves in the output block: the product of the resident factor with the dequantised slabs. -/
module

public import proofs.«01_k».proof.Proof.Dyq

@[expose] public section

set_option maxRecDepth 16384

noncomputable section

namespace Cert.Dequant

open Cert.KernelIdeal Cert.KernelIdeal.Gen Idealize.ShloMosaic Idealize.ShloMosaic.ValueIdx Idealize.ShloMosaic.TcCoe Idealize.SL.Sem

theorem hz2 : (![0, 0] : Fin 2 → Nat) = fun _ => 0 := funext fun a => by fin_cases a <;> rfl

/-- The block's product, at an index. -/
theorem product_apply (a : Vec Ideal S2880x1152 .bf16) (b : Vec Ideal S1152x256 .bf16) (r : Fin 2880) (l : Fin 256) :
    (k0_pay1 a b (ix2 r l) : EReal) = ∑ k : Fin 1152, (a (ix2 r k) : EReal) * b (ix2 k l) := by
  unfold k0_pay1
  refine (Ideal.matmul_plain_apply (M := 2880) (K := 1152) (N := 256) none a b _ r l).trans ?_
  show Ideal.ofBits .f32 0x00000000#32 + _ = _
  rw [Ideal.ofBits_zero_f32, zero_add]

/-- What the body leaves in its output block at a grid point, at an index. -/
theorem block_apply (c : Dev nD) (i : grid0.Coords)
  (arg1 : Memref sig .tc .vmem S3x192x128 .i8) (harg1 : arg1.IsWhole) (arg2 : Memref sig .tc .vmem S3x192x128 .i8) (harg2 : arg2.IsWhole) (arg3 : Memref sig .tc .vmem S3x12x128 .i8) (harg3 : arg3.IsWhole) (arg4 : Memref sig .tc .vmem S3x12x128 .i8) (harg4 : arg4.IsWhole) (arg5 : Memref sig .tc .vmem S2880x1152 .bf16) (harg5 : arg5.IsWhole) (arg6 : Memref sig .tc .vmem S2880x256 .f32) (harg6 : arg6.IsWhole) (arg7 : Memref sig .tc .vmem S1152x256 .bf16) (harg7 : arg7.IsWhole) (arg8 : Memref sig .tc .vmem S2x144x128 .i32) (harg8 : arg8.IsWhole) (arg9 : Memref sig .tc .vmem S2x72x128 .i32) (harg9 : arg9.IsWhole) (arg10 : Memref sig .tc .vmem S2x72x128 .i32) (harg10 : arg10.IsWhole)
    (x0 : Vec Ideal S3x192x128 .i8) (x1 : Vec Ideal S3x192x128 .i8) (x2 : Vec Ideal S3x12x128 .i8) (x3 : Vec Ideal S3x12x128 .i8) (x4 : Vec Ideal S2880x1152 .bf16)
    (r : Fin 2880) (l : Fin 256) :
    (out0_A_5 c i arg1 harg1 arg2 harg2 arg3 harg3 arg4 harg4 arg5 harg5 arg6 harg6 arg7 harg7 arg8 harg8 arg9 harg9 arg10 harg10 x0 x1 x2 x3 x4 (ix2 r l) : EReal)
      = ∑ k : Fin 1152, (x4 (ix2 r k) : EReal) * dyq x0 x1 x2 x3 (ix2 k l) := by
  unfold out0_A_5
  rw [View.read_writes_eq_canon _ _ _ (cover0_A_5 c _ _ _ _ _ _ _ _ _ _ _ _ _ _ _ _ _ _ _ _ _ _ _ _ _ _)]
  unfold kernelRun0_A; dsimp only
  unfold kernelRun0_A.sl.v1327
  rw [View.canon_unit_zero hz2]
  refine (product_apply _ _ r l).trans ?_
  refine Finset.sum_congr rfl fun k _ => congrArg₂ (HMul.hMul (α := EReal) (β := EReal)) ?_ ?_
  · unfold kernelRun0_A.sl.r_117
    rw [View.readAt_eq_ld, harg5.read_unread, View.ld_unit_zero hz2]
  · refine (congrFun (View.readCov_eq_canon' arg7.view _ (Rect.unit (s := S1152x256) ![0, 0] S1152x256.size inb_S1152x256_S1152x256_0_0).toLoadRect) (ix2 k l)).trans ?_
    refine Eq.trans ?_ (dyq_eq c arg1 harg1 arg2 harg2 arg3 harg3 arg4 harg4 arg8 arg10 x0 x1 x2 x3 (ix2 k l))
    refine congrArg (View.canon _) (funext fun a => Fin.ext ?_)
    match a with
    | ⟨0, _⟩ => show 0 + 1 * k.val = k.val; omega
    | ⟨1, _⟩ => show 0 + 1 * l.val = l.val; omega

end Cert.Dequant

end
-- ==== Proof.Ref.lean ====
/- The reference, read at an index: the sum over tokens of a factor times a dequantised number. -/
module

public import proofs.«01_k».proof.Proof.Bits
public import proofs.«01_k».proof.Proof.Gen.ReferenceIdeal.Read

@[expose] public section

set_option maxRecDepth 16384

noncomputable section

namespace Cert.Dequant

open Cert.ReferenceIdeal Cert.ReferenceIdeal.Gen Cert.ReferenceIdeal.Read Idealize.ShloMosaic Idealize.ShloMosaic.ValueIdx Idealize.ShloMosaic.TcCoe

/-- The dequantised number at token `t` and column `l` of the whole arrays: its code decoded times its scale. -/
def deqAll (X : S3x192x5760.Idx → BitVec 8) (E : S3x12x5760.Idx → BitVec 8) (t : Nat) (ht : t < 1152) (l : Fin 5760) : EReal :=
  code (X (ix3 (⟨t / 384, by omega⟩ : Fin 3) (⟨t % 384 / 2, by omega⟩ : Fin 192) l)) (t % 2)
    * scale (E (ix3 (⟨t / 384, by omega⟩ : Fin 3) (⟨t % 384 / 32, by omega⟩ : Fin 12) l))

/-- Four bits of a byte, taken out of the byte by a mask or by a shift. -/
theorem nibble (b : BitVec 8) (j : Nat) (hj : j < 4) :
    (IntOp.andi (b.setWidth 32) 15#32).getLsbD j = b.getLsbD (4 * 0 + j)
      ∧ (IntOp.shrui .host (b.setWidth 32) 4#32).getLsbD j = b.getLsbD (4 * 1 + j) := by
  have all : ∀ n : Fin 256, ∀ q : Fin 4, (IntOp.andi ((BitVec.ofFin n : BitVec 8).setWidth 32) 15#32).getLsbD q.val = (BitVec.ofFin n : BitVec 8).getLsbD (4 * 0 + q.val)
      ∧ (IntOp.shrui .host ((BitVec.ofFin n : BitVec 8).setWidth 32) 4#32).getLsbD q.val = (BitVec.ofFin n : BitVec 8).getLsbD (4 * 1 + q.val) := by decide +kernel
  exact all b.toFin ⟨j, hj⟩

variable (x0 : S3x192x5760.Idx → BitVec 8) (x1 : S3x12x5760.Idx → BitVec 8)

/-- The unpacked codes: at batch `b`, token `s` and column `l` the four bits are those of half `s % 2` of byte row `s / 2`. -/
theorem codes_bits (b : Fin 3) (s : Fin 384) (l : Fin 5760) (j : Nat) (hj : j < 4) :
    (val_main_v8 (F := Ideal) x0 (ix3 b s l)).getLsbD j
      = (x0 (ix3 b (⟨s.val / 2, by omega⟩ : Fin 192) l)).getLsbD (4 * (s.val % 2) + j) := by
  have hb := b.isLt
  have hs := s.isLt
  have hl := l.isLt
  have ei : idx_main_v8 (ix3 b s l) = ix4 b (⟨s.val / 2, by omega⟩ : Fin 192) (⟨s.val % 2, by omega⟩ : Fin 2) l := by
    funext a
    match a with
    | ⟨0, _⟩ => exact Fin.ext (by show ((b.val * 384 + s.val) * 5760 + l.val) / 2211840 = b.val; omega)
    | ⟨1, _⟩ => exact Fin.ext (by show ((b.val * 384 + s.val) * 5760 + l.val) / 11520 % 192 = s.val / 2; omega)
    | ⟨2, _⟩ => exact Fin.ext (by show ((b.val * 384 + s.val) * 5760 + l.val) / 5760 % 2 = s.val % 2; omega)
    | ⟨3, _⟩ => exact Fin.ext (by show ((b.val * 384 + s.val) * 5760 + l.val) % 5760 = l.val; omega)
  rw [val_main_v8_apply, ei]
  unfold val_main_v7
  rcases (by omega : s.val % 2 = 0 ∨ s.val % 2 = 1) with h | h
  · refine (congrArg (fun v : BitVec 32 => v.getLsbD j) (concatenate_pair_apply_left (t := S3x192x2x5760) (s₁ := S3x192x1x5760) (s₂ := S3x192x1x5760) 2 _ _
      concatenates_S3x192x1x5760_S3x192x1x5760_S3x192x2x5760_d2 _ rfl (ix4 b (⟨s.val / 2, by omega⟩ : Fin 192) (0 : Fin 1) l) (fun a => ?_))).trans ?_
    · match a with
      | ⟨0, _⟩ => rfl
      | ⟨1, _⟩ => rfl
      | ⟨2, _⟩ => show 0 = s.val % 2; omega
      | ⟨3, _⟩ => rfl
    · rw [val_main_v5_apply, val_main_v2_apply, val_main_v0_apply, val_main_v1_apply, val_main_c_apply, h]
      refine (nibble _ j hj).1.trans ?_
      refine congrArg (fun i => (x0 i).getLsbD (4 * 0 + j)) (funext fun a => ?_)
      match a with
      | ⟨0, _⟩ => rfl
      | ⟨1, _⟩ => rfl
      | ⟨2, _⟩ => rfl
  · refine (congrArg (fun v : BitVec 32 => v.getLsbD j) (concatenate_pair_apply_right (t := S3x192x2x5760) (s₁ := S3x192x1x5760) (s₂ := S3x192x1x5760) 2 _ _
      concatenates_S3x192x1x5760_S3x192x1x5760_S3x192x2x5760_d2 _ rfl rfl (ix4 b (⟨s.val / 2, by omega⟩ : Fin 192) (0 : Fin 1) l) (fun a ha => ?_) ?_)).trans ?_
    · match a, ha with
      | ⟨0, _⟩, _ => rfl
      | ⟨1, _⟩, _ => rfl
      | ⟨2, _⟩, ha => exact absurd rfl ha
      | ⟨3, _⟩, _ => rfl
    · show 0 + 1 = s.val % 2; omega
    · rw [val_main_v6_apply, val_main_v4_apply, val_main_v0_apply, val_main_v3_apply, val_main_c_0_apply, h]
      refine (nibble _ j hj).2.trans ?_
      refine congrArg (fun i => (x0 i).getLsbD (4 * 1 + j)) (funext fun a => ?_)
      match a with
      | ⟨0, _⟩ => rfl
      | ⟨1, _⟩ => rfl
      | ⟨2, _⟩ => rfl

/-- The decoded codes of the reference. -/
theorem codes_value (b : Fin 3) (s : Fin 384) (l : Fin 5760) :
    (val_main_v34 (F := Ideal) x0 (ix3 b s l) : EReal) = code (x0 (ix3 b (⟨s.val / 2, by omega⟩ : Fin 192) l)) (s.val % 2) := by
  refine Eq.trans ?_ (fp4_bits (val_main_v8 (F := Ideal) x0 (ix3 b s l)) _ _ (fun j hj => codes_bits x0 b s l j hj))
  rw [val_main_v34_apply, val_main_v33_apply, val_main_v32_apply, val_main_v31_apply, val_main_v30_apply, val_main_v29_apply, val_main_v28_apply,
    val_main_v27_apply, val_main_v26_apply, val_main_v25_apply, val_main_v24_apply, val_main_v20_apply, val_main_v16_apply, val_main_v12_apply,
    val_main_v22_apply, val_main_v18_apply, val_main_v14_apply, val_main_v10_apply,
    val_main_v23_apply, val_main_v21_apply, val_main_v19_apply, val_main_v17_apply, val_main_v15_apply, val_main_v13_apply, val_main_v11_apply, val_main_v9_apply,
    val_main_call0_v0_apply, val_main_call0_v1_apply, val_main_call1_v0_apply, val_main_call1_v1_apply,
    val_main_call3_v0_apply, val_main_call3_v1_apply, val_main_call4_v0_apply, val_main_call4_v1_apply]
  rfl

/-- The scales of the reference. -/
theorem scales_value (i : S3x12x5760.Idx) : (val_main_v39 (F := Ideal) x1 i : EReal) = scale (x1 i) := by
  rw [val_main_v39_apply, val_main_v38_apply, val_main_v37_apply, val_main_v36_apply, val_main_v35_apply, val_main_c_16_apply]
  unfold scale
  show FloatOps.ofBits (F := Ideal) .f32 (IntOp.shli .host ((x1 i).setWidth 32) 23#32) = _
  refine congrArg _ ?_
  unfold IntOp.shli
  rw [if_pos (by decide)]
  rfl

/-- The dequantised array of the reference, at token `t` and column `l`. -/
theorem deq_value (t : Fin 1152) (l : Fin 5760) :
    (val_main_v44 (F := Ideal) x0 x1 (ix2 t l) : EReal) = deqAll x0 x1 t.val t.isLt l := by
  have ht := t.isLt
  have hl := l.isLt
  have e44 : idx_main_v44 (ix2 t l) = ix4 (⟨t.val / 384, by omega⟩ : Fin 3) (⟨t.val % 384 / 32, by omega⟩ : Fin 12) (⟨t.val % 32, by omega⟩ : Fin 32) l := by
    funext a
    match a with
    | ⟨0, _⟩ => exact Fin.ext (by show (t.val * 5760 + l.val) / 2211840 = t.val / 384; omega)
    | ⟨1, _⟩ => exact Fin.ext (by show (t.val * 5760 + l.val) / 184320 % 12 = t.val % 384 / 32; omega)
    | ⟨2, _⟩ => exact Fin.ext (by show (t.val * 5760 + l.val) / 5760 % 32 = t.val % 32; omega)
    | ⟨3, _⟩ => exact Fin.ext (by show (t.val * 5760 + l.val) % 5760 = l.val; omega)
  have e40 : idx_main_v40 (ix4 (⟨t.val / 384, by omega⟩ : Fin 3) (⟨t.val % 384 / 32, by omega⟩ : Fin 12) (⟨t.val % 32, by omega⟩ : Fin 32) l)
      = ix3 (⟨t.val / 384, by omega⟩ : Fin 3) (⟨t.val % 384, by omega⟩ : Fin 384) l := by
    funext a
    match a with
    | ⟨0, _⟩ => exact Fin.ext (by show (((t.val / 384 * 12 + t.val % 384 / 32) * 32 + t.val % 32) * 5760 + l.val) / 2211840 = t.val / 384; omega)
    | ⟨1, _⟩ => exact Fin.ext (by show (((t.val / 384 * 12 + t.val % 384 / 32) * 32 + t.val % 32) * 5760 + l.val) / 5760 % 384 = t.val % 384; omega)
    | ⟨2, _⟩ => exact Fin.ext (by show (((t.val / 384 * 12 + t.val % 384 / 32) * 32 + t.val % 32) * 5760 + l.val) % 5760 = l.val; omega)
  rw [val_main_v44_apply, e44, val_main_v43_apply, val_main_v40_apply, val_main_v42_apply, val_main_v41_apply, e40]
  unfold deqAll
  refine congrArg₂ (HMul.hMul (α := EReal) (β := EReal)) ((codes_value x0 _ _ l).trans ?_) ((scales_value x1 _).trans ?_)
  · exact congrArg (code _) (by show t.val % 384 % 2 = t.val % 2; omega)
  · refine congrArg (fun i => scale (x1 i)) (funext fun a => ?_)
    match a with
    | ⟨0, _⟩ => rfl
    | ⟨1, _⟩ => rfl
    | ⟨2, _⟩ => rfl

/-- The product both programs compute, as one function of the arguments. -/
def grad (x2 : S2880x1152.Idx → EReal) (i : S2880x5760.Idx) : EReal :=
  ∑ k : Fin 1152, x2 (ix2 (n0 := 2880) (n1 := 1152) (i 0) k) * deqAll x0 x1 k.val k.isLt (i 1)

/-- The reference computes it. -/
theorem ref_value (x2 : (⟨S2880x1152, .bf16⟩ : BufTy).Contents (Elt Ideal)) : val_main_v45 (F := Ideal) x0 x1 x2 = grad x0 x1 x2 := by
  funext i
  rw [val_main_v45_apply]
  unfold grad
  refine Finset.sum_congr rfl fun k _ => congrArg₂ (HMul.hMul (α := EReal) (β := EReal)) (congrArg x2 (funext fun a => ?_)) ?_
  · match a with
    | ⟨0, _⟩ => rfl
    | ⟨1, _⟩ => rfl
  · refine Eq.trans (congrArg (val_main_v44 (F := Ideal) x0 x1) (funext fun a => ?_)) (deq_value x0 x1 k (i 1))
    match a with
    | ⟨0, _⟩ => rfl
    | ⟨1, _⟩ => rfl

end Cert.Dequant

end
-- ==== Proof.Array.lean ====
/- The output array after the run: the product at every index. -/
module

public import proofs.«01_k».proof.Proof.Block
public import proofs.«01_k».proof.Proof.Ref
public import Idealize.ShloMosaic.Lib.Pipeline.ValueKit

@[expose] public section

set_option maxRecDepth 16384

noncomputable section

namespace Cert.Dequant

open Cert.KernelIdeal Cert.KernelIdeal.Gen Idealize.ShloMosaic.ValueIdx Idealize.ShloMosaic.TcCoe Idealize.SL.Sem
open Idealize.ShloMosaic hiding ix2 ix3
open Idealize.ShloMosaic.Pipeline (Dat)

variable (m : (ℓ : Loc nD τ sig) → Buf (Elt Ideal) ℓ) (c : Dev nD)

/-- The block indices of the windows at each grid point: the two slabs, the whole factor, the output block. -/
theorem idx0 : ∀ t : Fin cfg0.N, win0_0.index t = ![0, 0, 2 * t.val] := (by decide +kernel : ∀ t : Fin grid0.N, win0_0.index t = ![0, 0, 2 * t.val])
theorem idx1 : ∀ t : Fin cfg0.N, win0_1.index t = ![0, 0, min (2 * t.val + 1) 44] := (by decide +kernel : ∀ t : Fin grid0.N, win0_1.index t = ![0, 0, min (2 * t.val + 1) 44])
theorem idx2 : ∀ t : Fin cfg0.N, win0_2.index t = ![0, 0, 2 * t.val] := (by decide +kernel : ∀ t : Fin grid0.N, win0_2.index t = ![0, 0, 2 * t.val])
theorem idx3 : ∀ t : Fin cfg0.N, win0_3.index t = ![0, 0, min (2 * t.val + 1) 44] := (by decide +kernel : ∀ t : Fin grid0.N, win0_3.index t = ![0, 0, min (2 * t.val + 1) 44])
theorem idx4 : ∀ t : Fin cfg0.N, win0_4.index t = ![0, 0] := (by decide +kernel : ∀ t : Fin grid0.N, win0_4.index t = ![0, 0])
theorem idx5 : ∀ t : Fin cfg0.N, win0_5.index t = ![0, t.val] := (by decide +kernel : ∀ t : Fin grid0.N, win0_5.index t = ![0, t.val])

/-- The low slab of codes at point `t` holds the columns from `256 t` on. -/
theorem codes_lo (t : Fin cfg0.N) (b : Fin 3) (j : Fin 192) (l : Fin 128) (col : Fin 5760) (hc : col.val = 256 * t.val + l.val) :
    iblk m c 0 t (ix3 b j l) = m ((c : Thread nD τ).loc main_arg0) (ix3 b j col) := by
  refine congrArg (m ((c : Thread nD τ).loc main_arg0)) (funext fun a => Fin.ext ?_)
  refine (win0_0.rect_emb_val t (ix3 b j l) a).trans ?_
  rw [idx0 t]
  match a with
  | ⟨0, _⟩ => show 0 * 3 + b.val = b.val; omega
  | ⟨1, _⟩ => show 0 * 192 + j.val = j.val; omega
  | ⟨2, _⟩ => show 2 * t.val * 128 + l.val = col.val; omega

/-- The high slab of codes at point `t` holds the columns from `256 t + 128` on, where there are any. -/
theorem codes_hi (t : Fin cfg0.N) (b : Fin 3) (j : Fin 192) (l : Fin 128) (col : Fin 5760) (hc : col.val = 256 * t.val + 128 + l.val) :
    iblk m c 1 t (ix3 b j l) = m ((c : Thread nD τ).loc main_arg0) (ix3 b j col) := by
  refine congrArg (m ((c : Thread nD τ).loc main_arg0)) (funext fun a => Fin.ext ?_)
  refine (win0_1.rect_emb_val t (ix3 b j l) a).trans ?_
  rw [idx1 t]
  match a with
  | ⟨0, _⟩ => show 0 * 3 + b.val = b.val; omega
  | ⟨1, _⟩ => show 0 * 192 + j.val = j.val; omega
  | ⟨2, _⟩ => have := col.isLt; show min (2 * t.val + 1) 44 * 128 + l.val = col.val; omega

/-- The low slab of scale bytes at point `t` holds the columns from `256 t` on. -/
theorem exps_lo (t : Fin cfg0.N) (b : Fin 3) (j : Fin 12) (l : Fin 128) (col : Fin 5760) (hc : col.val = 256 * t.val + l.val) :
    iblk m c 2 t (ix3 b j l) = m ((c : Thread nD τ).loc main_arg1) (ix3 b j col) := by
  refine congrArg (m ((c : Thread nD τ).loc main_arg1)) (funext fun a => Fin.ext ?_)
  refine (win0_2.rect_emb_val t (ix3 b j l) a).trans ?_
  rw [idx2 t]
  match a with
  | ⟨0, _⟩ => show 0 * 3 + b.val = b.val; omega
  | ⟨1, _⟩ => show 0 * 12 + j.val = j.val; omega
  | ⟨2, _⟩ => show 2 * t.val * 128 + l.val = col.val; omega

/-- The high slab of scale bytes at point `t` holds the columns from `256 t + 128` on, where there are any. -/
theorem exps_hi (t : Fin cfg0.N) (b : Fin 3) (j : Fin 12) (l : Fin 128) (col : Fin 5760) (hc : col.val = 256 * t.val + 128 + l.val) :
    iblk m c 3 t (ix3 b j l) = m ((c : Thread nD τ).loc main_arg1) (ix3 b j col) := by
  refine congrArg (m ((c : Thread nD τ).loc main_arg1)) (funext fun a => Fin.ext ?_)
  refine (win0_3.rect_emb_val t (ix3 b j l) a).trans ?_
  rw [idx3 t]
  match a with
  | ⟨0, _⟩ => show 0 * 3 + b.val = b.val; omega
  | ⟨1, _⟩ => show 0 * 12 + j.val = j.val; omega
  | ⟨2, _⟩ => have := col.isLt; show min (2 * t.val + 1) 44 * 128 + l.val = col.val; omega

/-- The resident factor is the whole third argument at every point. -/
theorem factor (t : Fin cfg0.N) (r : Fin 2880) (k : Fin 1152) :
    iblk m c 4 t (ix2 r k) = m ((c : Thread nD τ).loc main_arg2) (ix2 r k) := by
  refine congrArg (m ((c : Thread nD τ).loc main_arg2)) (funext fun a => Fin.ext ?_)
  refine (win0_4.rect_emb_val t (ix2 r k) a).trans ?_
  rw [idx4 t]
  match a with
  | ⟨0, _⟩ => show 0 * 2880 + r.val = r.val; omega
  | ⟨1, _⟩ => show 0 * 1152 + k.val = k.val; omega

/-- The dequantised slabs of point `t` are the dequantised columns `256 t` to `256 t + 255`, as far as there are columns. -/
theorem dyq_block (t : Fin cfg0.N) (k : Fin 1152) (l : Fin 256) (col : Fin 5760) (hc : col.val = 256 * t.val + l.val) :
    dyq (iblk m c 0 t) (iblk m c 1 t) (iblk m c 2 t) (iblk m c 3 t) (ix2 k l)
      = deqAll (m ((c : Thread nD τ).loc main_arg0)) (m ((c : Thread nD τ).loc main_arg1)) k.val k.isLt col := by
  unfold dyq deq deqAll
  show code ((if l.val < 128 then iblk m c 0 t else iblk m c 1 t) (ix3 _ _ ⟨l.val % 128, _⟩)) (k.val % 2)
    * scale ((if l.val < 128 then iblk m c 2 t else iblk m c 3 t) (ix3 _ _ ⟨l.val % 128, _⟩)) = _
  by_cases h : l.val < 128
  · rw [if_pos h, if_pos h, codes_lo m c t _ _ _ col (by show col.val = 256 * t.val + l.val % 128; omega),
      exps_lo m c t _ _ _ col (by show col.val = 256 * t.val + l.val % 128; omega)]
  · rw [if_neg h, if_neg h, codes_hi m c t _ _ _ col (by show col.val = 256 * t.val + 128 + l.val % 128; omega),
      exps_hi m c t _ _ _ col (by show col.val = 256 * t.val + 128 + l.val % 128; omega)]

/-- After the run the output array is the product, at every index. -/
theorem final (c : Dev nD) : (dats m 0 c).arrAt 5 cfg0.N
    = grad (m ((c : Thread nD τ).loc main_arg0)) (m ((c : Thread nD τ).loc main_arg1)) (m ((c : Thread nD τ).loc main_arg2)) := by
  refine (dats m 0 c).arrAt_eq_of_covers 5 _ (by decide +kernel) fun t _ y => ?_
  let i : S2880x5760.Idx := (win0_5.blk t).view.emb y
  let r : Fin 2880 := win0_5.xinj (grid0.coords t) y 0
  let l : Fin 256 := win0_5.xinj (grid0.coords t) y 1
  have e0 : (i 0).val = r.val := by
    refine (win0_5.rect_emb_val t y 0).trans ?_
    rw [idx5 t]
    show 0 * 2880 + r.val = r.val
    omega
  have e1 : (i 1).val = 256 * t.val + l.val := by
    refine (win0_5.rect_emb_val t y 1).trans ?_
    rw [idx5 t]
    show t.val * 256 + l.val = _
    omega
  have ey : win0_5.xinj (grid0.coords t) y = ix2 r l := funext fun a => match a with
    | ⟨0, _⟩ => rfl
    | ⟨1, _⟩ => rfl
  show (dats m 0 c).after 5 t (win0_5.xinj (grid0.coords t) y) = grad _ _ _ i
  rw [after0_5]
  refine (congrArg (outsAt0 m c t) ey).trans ?_
  unfold outsAt0
  refine (block_apply c _ _ _ _ _ _ _ _ _ _ _ _ _ _ _ _ _ _ _ _ _ _ _ _ _ _ r l).trans ?_
  unfold grad
  refine Finset.sum_congr rfl fun k _ => congrArg₂ (HMul.hMul (α := EReal) (β := EReal)) ?_ ?_
  · refine (factor m c t r k).trans (congrArg (m ((c : Thread nD τ).loc main_arg2)) (funext fun a => Fin.ext ?_))
    match a with
    | ⟨0, _⟩ => exact e0.symm
    | ⟨1, _⟩ => rfl
  · exact dyq_block m c t k l (i 1) e1

end Cert.Dequant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and leaves every semaphore at zero (it has none). -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Kernel and reference end with the same result: the product of the third argument with the dequantised codes. -/
theorem algebraic : Cert.algebraic_KernelIdeal_ReferenceIdeal := by
  intro m ρ m' ρ' _ hagree
  refine ⟨fun c => Cert.Dequant.grad (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.Dequant.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, Cert.Dequant.ref_value, (hagree c).1, (hagree c).2.1, (hagree c).2.2]

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, algebraic⟩

end Cert.Proof

end
